-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![8192, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S_ : Shape := ⟨0, ![]⟩

class Facts : Prop where
  bitsLt_bf16_f32 : FTy.bits .bf16 < FTy.bits .f32
  bcast_S_S1024x256 : S_.BroadcastsInDim S1024x256 (![] : Fin 0 → Fin S1024x256.rank)
  bcast_S_S256x32 : S_.BroadcastsInDim S256x32 (![] : Fin 0 → Fin S256x32.rank)
  bcast_S_S1024x2 : S_.BroadcastsInDim S1024x2 (![] : Fin 0 → Fin S1024x2.rank)

variable [Facts]

def fn {F : FTy → Type} [FloatOps F] (main_arg0 : FVec F S1024x256 .bf16) (main_arg1 : FVec F S256x32 .bf16) (main_arg2 : IVec S1024x2 32) (main_arg3 : FVec F S4x256x512 .bf16) : IVec S1024x256 1 × IVec S256x32 1 × IVec S1024x2 1 :=
  let main_v0 : FVec F S1024x256 .f32 := (extf .f32 · bitsLt_bf16_f32) main_arg0
  let main_v1 : FVec F S1024x256 .f32 := Host.absf main_v0
  let main_cst : FVec F S_ .f32 := constant S_ .f32 0x7F800000#32
  let main_v2 : FVec F S1024x256 .f32 := broadcastInDim S1024x256 ![] bcast_S_S1024x256 main_cst
  let main_v3 : IVec S1024x256 1 := cmpf .olt main_v1 main_v2
  let main_v4 : FVec F S256x32 .f32 := (extf .f32 · bitsLt_bf16_f32) main_arg1
  let main_v5 : FVec F S256x32 .f32 := Host.absf main_v4
  let main_cst_0 : FVec F S_ .f32 := constant S_ .f32 0x7F800000#32
  let main_v6 : FVec F S256x32 .f32 := broadcastInDim S256x32 ![] bcast_S_S256x32 main_cst_0
  let main_v7 : IVec S256x32 1 := cmpf .olt main_v5 main_v6
  let main_c : IVec S_ 32 := constantI S_ 32 0#32
  let main_v8 : IVec S1024x2 32 := broadcastInDim S1024x2 ![] bcast_S_S1024x2 main_c
  let main_v9 : IVec S1024x2 1 := cmpi .sge main_arg2 main_v8
  let main_c_1 : IVec S_ 32 := constantI S_ 32 32#32
  let main_v10 : IVec S1024x2 32 := broadcastInDim S1024x2 ![] bcast_S_S1024x2 main_c_1
  let main_v11 : IVec S1024x2 1 := cmpi .slt main_arg2 main_v10
  let main_v12 : IVec S1024x2 1 := andi main_v9 main_v11
  (main_v3, main_v7, main_v12)
-- ==== Pre_routed_ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S_ : Shape := ⟨0, ![]⟩

class Facts : Prop where
  bitsLt_bf16_f32 : FTy.bits .bf16 < FTy.bits .f32
  bcast_S_S8192x256 : S_.BroadcastsInDim S8192x256 (![] : Fin 0 → Fin S8192x256.rank)
  bcast_S_S256x32 : S_.BroadcastsInDim S256x32 (![] : Fin 0 → Fin S256x32.rank)
  bcast_S_S8192x2 : S_.BroadcastsInDim S8192x2 (![] : Fin 0 → Fin S8192x2.rank)

variable [Facts]

def fn {F : FTy → Type} [FloatOps F] (main_arg0 : FVec F S8192x256 .bf16) (main_arg1 : FVec F S256x32 .bf16) (main_arg2 : IVec S8192x2 32) (main_arg3 : FVec F S32x256x512 .bf16) : IVec S8192x256 1 × IVec S256x32 1 × IVec S8192x2 1 :=
  let main_v0 : FVec F S8192x256 .f32 := (extf .f32 · bitsLt_bf16_f32) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S256x32 .f32 := (extf .f32 · bitsLt_bf16_f32) main_arg1
  let main_v5 : FVec F S256x32 .f32 := Host.absf main_v4
  let main_cst_0 : FVec F S_ .f32 := constant S_ .f32 0x7F800000#32
  let main_v6 : FVec F S256x32 .f32 := broadcastInDim S256x32 ![] bcast_S_S256x32 main_cst_0
  let main_v7 : IVec S256x32 1 := cmpf .olt main_v5 main_v6
  let main_c : IVec S_ 32 := constantI S_ 32 0#32
  let main_v8 : IVec S8192x2 32 := broadcastInDim S8192x2 ![] bcast_S_S8192x2 main_c
  let main_v9 : IVec S8192x2 1 := cmpi .sge main_arg2 main_v8
  let main_c_1 : IVec S_ 32 := constantI S_ 32 32#32
  let main_v10 : IVec S8192x2 32 := broadcastInDim S8192x2 ![] bcast_S_S8192x2 main_c_1
  let main_v11 : IVec S8192x2 1 := cmpi .slt main_arg2 main_v10
  let main_v12 : IVec S8192x2 1 := andi main_v9 main_v11
  (main_v3, main_v7, main_v12)
-- ==== Kernel.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S1024x512 : Shape := ⟨2, ![1024, 512]⟩
abbrev S8x4x256x512 : Shape := ⟨4, ![8, 4, 256, 512]⟩
abbrev S5 : Shape := ⟨1, ![5]⟩
abbrev S4 : Shape := ⟨1, ![4]⟩
abbrev S_ : Shape := ⟨0, ![]⟩
abbrev S1x4x256x512 : Shape := ⟨4, ![1, 4, 256, 512]⟩
abbrev S1 : Shape := ⟨1, ![1]⟩
abbrev S1x2x256x512 : Shape := ⟨4, ![1, 2, 256, 512]⟩
abbrev S2x256x512 : Shape := ⟨3, ![2, 256, 512]⟩
abbrev S1024x32 : Shape := ⟨2, ![1024, 32]⟩
abbrev S1024 : Shape := ⟨1, ![1024]⟩
abbrev S1024x1 : Shape := ⟨2, ![1024, 1]⟩
abbrev S1x1x256x512 : Shape := ⟨4, ![1, 1, 256, 512]⟩
abbrev S256x512 : Shape := ⟨2, ![256, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x2, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S256x32, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .f32⟩
  | .local _ .vmem, ⟨5, _⟩ => ⟨S8x4x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_37 : BitVec 32 := 1#32
  let v61 : BitVec 32 := Scalar.muli v33 c1_i32_37
  let v62 : BitVec 32 := Scalar.addi c0_i32_38 v61
  v62.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_40 : BitVec 32 := 1#32
  let v63 : BitVec 32 := Scalar.muli v19 c1_i32_40
  let v64 : BitVec 32 := Scalar.addi c0_i32_41 v63
  v64.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_43 : BitVec 32 := 1#32
  let v65 : BitVec 32 := Scalar.muli v59 c1_i32_43
  let v66 : BitVec 32 := Scalar.addi c0_i32_44 v65
  v66.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_56 : BitVec 32 := 1#32
  let v72 : BitVec 32 := Scalar.muli v19 c1_i32_56
  let v73 : BitVec 32 := Scalar.addi c0_i32_57 v72
  v73.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_68 : BitVec 32 := 1#32
  let v82 : BitVec 32 := Scalar.muli v19 c1_i32_68
  let v83 : BitVec 32 := Scalar.addi c0_i32_69 v82
  v83.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_79 : BitVec 32 := 1#32
  let v92 : BitVec 32 := Scalar.muli v33 c1_i32_79
  let v93 : BitVec 32 := Scalar.addi c0_i32_80 v92
  v93.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_91 : BitVec 32 := 1#32
  let v102 : BitVec 32 := Scalar.muli v33 c1_i32_91
  let v103 : BitVec 32 := Scalar.addi c0_i32_92 v102
  v103.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let v112 : BitVec 32 := Scalar.extui v44
  let c0_i32_99 : BitVec 32 := 0#32
  let v113 : BitVec 1 := Scalar.cmpi .ne v112 c0_i32_99
  v113

def k0_dev8 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let true_100 : BitVec 1 := 1#1
  let v114 : BitVec 1 := Scalar.xori v44 true_100
  let v115 : BitVec 32 := Scalar.extui v114
  let c0_i32_101 : BitVec 32 := 0#32
  let v116 : BitVec 1 := Scalar.cmpi .ne v115 c0_i32_101
  v116

def k0_dev9 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_196 : BitVec 32 := 1#32
  let v256 : BitVec 32 := Scalar.muli v19 c1_i32_196
  let v257 : BitVec 32 := Scalar.addi c0_i32_197 v256
  v257.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let v266 : BitVec 32 := Scalar.extui v44
  let c0_i32_204 : BitVec 32 := 0#32
  let v267 : BitVec 1 := Scalar.cmpi .ne v266 c0_i32_204
  v267

def k0_dev11 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_dev12 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_260 : BitVec 32 := 1#32
  let v330 : BitVec 32 := Scalar.muli v33 c1_i32_260
  let v331 : BitVec 32 := Scalar.addi c0_i32_261 v330
  v331.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let true_268 : BitVec 1 := 1#1
  let v340 : BitVec 1 := Scalar.xori v44 true_268
  let v341 : BitVec 32 := Scalar.extui v340
  let c0_i32_269 : BitVec 32 := 0#32
  let v342 : BitVec 1 := Scalar.cmpi .ne v341 c0_i32_269
  v342

def k0_dev13 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_dev14 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_325 : BitVec 32 := 1#32
  let v405 : BitVec 32 := Scalar.muli v19 c1_i32_325
  let v406 : BitVec 32 := Scalar.addi c0_i32_326 v405
  v406.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let v415 : BitVec 32 := Scalar.extui v44
  let c0_i32_333 : BitVec 32 := 0#32
  let v416 : BitVec 1 := Scalar.cmpi .ne v415 c0_i32_333
  v416

def k0_dev15 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_390 : BitVec 32 := 1#32
  let v479 : BitVec 32 := Scalar.muli v33 c1_i32_390
  let v480 : BitVec 32 := Scalar.addi c0_i32_391 v479
  v480.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let true_398 : BitVec 1 := 1#1
  let v489 : BitVec 1 := Scalar.xori v44 true_398
  let v490 : BitVec 32 := Scalar.extui v489
  let c0_i32_399 : BitVec 32 := 0#32
  let v491 : BitVec 1 := Scalar.cmpi .ne v490 c0_i32_399
  v491

def k0_dev17 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_off1 (d0 : Dev nD) (c5_i32_452 : BitVec 32) (c3_i32_453 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let v554 : BitVec 32 := Scalar.select v44 c5_i32_452 c3_i32_453
  let v569 : Index := Scalar.indexCast v554
  let c0_463 : Index := 0#32
  let c0_464 : Index := 0#32
  let c0_465 : Index := 0#32
  ![v569.toNat, 0, 0, 0]
def k0_off1_at (r : Fin 2) : BitVec 32 × BitVec 32 :=
  if r.val < 1 then
    (5#32, 3#32)
  else
    (3#32, 5#32)
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let v615 : BitVec 32 := Scalar.extui v44
  let c0_i32_500 : BitVec 32 := 0#32
  let v616 : BitVec 1 := Scalar.cmpi .ne v615 c0_i32_500
  v616

def k0_dev18 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let true_553 : BitVec 1 := 1#1
  let v679 : BitVec 1 := Scalar.xori v44 true_553
  let v680 : BitVec 32 := Scalar.extui v679
  let c0_i32_554 : BitVec 32 := 0#32
  let v681 : BitVec 1 := Scalar.cmpi .ne v680 c0_i32_554
  v681

def k0_dev19 (d0 : Dev nD) : Nat :=
  let c0_i32_972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c2_i32 : BitVec 32 := 2#32
  let c0_i32_20 : BitVec 32 := 0#32
  let v34 : BitVec 1 := Scalar.cmpi .eq c2_i32 c0_i32_20
  let c1_i32_21 : BitVec 32 := 1#32
  let v35 : BitVec 32 := Scalar.select v34 c1_i32_21 c2_i32
  let v36 : BitVec 32 := Scalar.remsi v5 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c0_i32_25 : BitVec 32 := 0#32
  let v44 : BitVec 1 := Scalar.cmpi .eq v43 c0_i32_25
  let c3_i32_26 : BitVec 32 := 3#32
  let c5_i32 : BitVec 32 := 5#32
  let v45 : BitVec 32 := Scalar.select v44 c3_i32_26 c5_i32
  let v46 : BitVec 32 := Scalar.addi v5 v45
  let c8_i32_27 : BitVec 32 := 8#32
  let c0_i32_28 : BitVec 32 := 0#32
  let v47 : BitVec 1 := Scalar.cmpi .eq c8_i32_27 c0_i32_28
  let c1_i32_29 : BitVec 32 := 1#32
  let v48 : BitVec 32 := Scalar.select v47 c1_i32_29 c8_i32_27
  let v49 : BitVec 32 := Scalar.remsi v46 v48
  let c0_i32_31 : BitVec 32 := 0#32
  let v51 : BitVec 1 := Scalar.cmpi .slt v49 c0_i32_31
  let c0_i32_32 : BitVec 32 := 0#32
  let v52 : BitVec 1 := Scalar.cmpi .slt v48 c0_i32_32
  let v53 : BitVec 1 := Scalar.xori v51 v52
  let c0_i32_30 : BitVec 32 := 0#32
  let v50 : BitVec 1 := Scalar.cmpi .ne v49 c0_i32_30
  let v54 : BitVec 1 := Scalar.andi v53 v50
  let v55 : BitVec 32 := Scalar.addi v49 v48
  let v56 : BitVec 32 := Scalar.select v54 v55 v49
  let c4_i32_33 : BitVec 32 := 4#32
  let v57 : BitVec 1 := Scalar.cmpi .sge v56 c4_i32_33
  let c3_i32_34 : BitVec 32 := 3#32
  let c0_i32_35 : BitVec 32 := 0#32
  let v58 : BitVec 32 := Scalar.select v57 c3_i32_34 c0_i32_35
  let v59 : BitVec 32 := Scalar.xori v56 v58
  let c1_i32_971 : BitVec 32 := 1#32
  let v1184 : BitVec 32 := Scalar.muli v59 c1_i32_971
  let v1185 : BitVec 32 := Scalar.addi c0_i32_972 v1184
  v1185.toNat
def k0_dev20 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_0 : BitVec 32 := 1#32
  let v6 : BitVec 32 := Scalar.addi v5 c1_i32_0
  let c8_i32_1 : BitVec 32 := 8#32
  let c0_i32_2 : BitVec 32 := 0#32
  let v7 : BitVec 1 := Scalar.cmpi .eq c8_i32_1 c0_i32_2
  let c1_i32_3 : BitVec 32 := 1#32
  let v8 : BitVec 32 := Scalar.select v7 c1_i32_3 c8_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_7 : BitVec 32 := 4#32
  let v17 : BitVec 1 := Scalar.cmpi .sge v16 c4_i32_7
  let c3_i32_8 : BitVec 32 := 3#32
  let c0_i32_9 : BitVec 32 := 0#32
  let v18 : BitVec 32 := Scalar.select v17 c3_i32_8 c0_i32_9
  let v19 : BitVec 32 := Scalar.xori v16 v18
  let c1_i32_610 : BitVec 32 := 1#32
  let v744 : BitVec 32 := Scalar.muli v19 c1_i32_610
  let v745 : BitVec 32 := Scalar.addi c0_i32_611 v744
  v745.toNat
def k0_dev21 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .sge v2 c4_i32
  let c3_i32 : BitVec 32 := 3#32
  let c0_i32 : BitVec 32 := 0#32
  let v4 : BitVec 32 := Scalar.select v3 c3_i32 c0_i32
  let v5 : BitVec 32 := Scalar.xori v2 v4
  let c1_i32_10 : BitVec 32 := 1#32
  let v20 : BitVec 32 := Scalar.subi v5 c1_i32_10
  let c8_i32_11 : BitVec 32 := 8#32
  let c0_i32_12 : BitVec 32 := 0#32
  let v21 : BitVec 1 := Scalar.cmpi .eq c8_i32_11 c0_i32_12
  let c1_i32_13 : BitVec 32 := 1#32
  let v22 : BitVec 32 := Scalar.select v21 c1_i32_13 c8_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c4_i32_17 : BitVec 32 := 4#32
  let v31 : BitVec 1 := Scalar.cmpi .sge v30 c4_i32_17
  let c3_i32_18 : BitVec 32 := 3#32
  let c0_i32_19 : BitVec 32 := 0#32
  let v32 : BitVec 32 := Scalar.select v31 c3_i32_18 c0_i32_19
  let v33 : BitVec 32 := Scalar.xori v30 v32
  let c1_i32_674 : BitVec 32 := 1#32
  let v816 : BitVec 32 := Scalar.muli v33 c1_i32_674
  let v817 : BitVec 32 := Scalar.addi c0_i32_675 v816
  v817.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x2 : Shape := ⟨2, ![8192, 2]⟩
abbrev S32x256x512 : Shape := ⟨3, ![32, 256, 512]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S8192x256x512 : Shape := ⟨3, ![8192, 256, 512]⟩
abbrev S8192x512 : Shape := ⟨2, ![8192, 512]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x32, .bf16⟩
  | .hbm, ⟨2, _⟩ => ⟨S8192x2, .i32⟩
  | .hbm, ⟨3, _⟩ => ⟨S32x256x512, .bf16⟩
  | .hbm, ⟨4, _⟩ => ⟨S8192x256, .f32⟩
  | .hbm, ⟨5, _⟩ => ⟨S256x32, .f32⟩
  | .hbm, ⟨6, _⟩ => ⟨S32x256x512, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x32, .f32⟩
  | .hbm, ⟨18, _⟩ => ⟨S8192x32, .f32⟩
  | .hbm, ⟨19, _⟩ => ⟨S8192x1, .i32⟩
  | .hbm, ⟨20, _⟩ => ⟨S8192, .i32⟩
  | .hbm, ⟨21, _⟩ => ⟨S8192x1, .i32⟩
  | .hbm, ⟨22, _⟩ => ⟨S8192, .i32⟩
  | .hbm, ⟨23, _⟩ => ⟨S_, .i32⟩
  | .hbm, ⟨24, _⟩ => ⟨S8192x2, .i32⟩
  | .hbm, ⟨25, _⟩ => ⟨S8192x2, .i1⟩
  | .hbm, ⟨26, _⟩ => ⟨S_, .i32⟩
  | .hbm, ⟨27, _⟩ => ⟨S8192x2, .i32⟩
  | .hbm, ⟨28, _⟩ => ⟨S8192x2, .i32⟩
  | .hbm, ⟨29, _⟩ => ⟨S8192x2, .i32⟩
  | .hbm, ⟨30, _⟩ => ⟨S8192x2x1, .i32⟩
  | .hbm, ⟨31, _⟩ => ⟨S8192x2, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .i32⟩
  | .hbm, ⟨36, _⟩ => ⟨S8192x256x512, .f32⟩
  | .hbm, ⟨37, _⟩ => ⟨S8192x1, .i32⟩
  | .hbm, ⟨38, _⟩ => ⟨S8192x256x512, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_v21 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Mesh.lean ====
/-
# The mesh, the copies and the buffer of weights

The eight devices sit on a ring: device `c` is at position `pos c`. Its scratch buffer has eight slots of four
experts' weights; slot `s` is to hold the weights of the device `s` positions before it. A slot is moved in two
halves of two experts each, by fourteen copies a device issues: five towards the next position (chain 0), five
towards the one before (chain 1), four towards the device three or five positions on (chain 2).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.MoeProof

open Cert.KernelIdeal Cert.KernelIdeal.Gen

open Idealize.ShloMosaic
open Idealize.ShloMosaic.TcCoe

/-! ## Positions and targets -/

/-- The ring position of a device; the same table leads back. -/
def pos (c : Dev nD) : Fin 8 := (![0, 1, 2, 3, 7, 6, 5, 4] : Fin 8 → Fin 8) c
/-- The device at a ring position. -/
def devAt (p : Fin 8) : Dev nD := (![0, 1, 2, 3, 7, 6, 5, 4] : Fin 8 → Fin 8) p
/-- Whether a device's position is even. -/
def evn (c : Dev nD) : Bool := (pos c).val % 2 == 0
/-- The device chain `d` of device `c` leads to: the next position, the one before, the free one. -/
def tgt (d : Fin 3) (c : Dev nD) : Dev nD :=
  devAt (pos c + (![1, 7, if evn c then 3 else 5] : Fin 3 → Fin 8) d)
/-- The chain leading back. -/
def opp (d : Fin 3) : Fin 3 := (![1, 0, 2] : Fin 3 → Fin 3) d
/-- The chain of a copy. -/
def chain (j : Fin 14) : Fin 3 := (![0, 0, 0, 0, 0, 1, 1, 1, 1, 1, 2, 2, 2, 2] : Fin 14 → Fin 3) j
/-- The half slot (twice the slot, plus one for the upper half) copy `j` of device `c` reads. -/
def srcH (j : Fin 14) (c : Dev nD) : Fin 16 :=
  if evn c then (![0, 1, 2, 3, 5, 0, 1, 14, 15, 13, 0, 2, 3, 4] : Fin 14 → Fin 16) j
  else (![0, 1, 2, 3, 5, 0, 1, 14, 15, 13, 0, 14, 15, 12] : Fin 14 → Fin 16) j
/-- The half slot of device `c` that copy `j` of the device leading to it fills. -/
def lndH (j : Fin 14) (c : Dev nD) : Fin 16 :=
  if evn c then (![2, 3, 4, 5, 7, 14, 15, 12, 13, 11, 10, 8, 9, 6] : Fin 14 → Fin 16) j
  else (![2, 3, 4, 5, 7, 14, 15, 12, 13, 11, 6, 8, 9, 10] : Fin 14 → Fin 16) j
/-- The slot of a half, -/
def slotOf (h : Fin 16) : Fin 8 := ⟨h.val / 2, by omega⟩
/-- and its first row of experts. -/
def rowOf (h : Fin 16) : ℕ := 2 * (h.val % 2)
/-- The device whose weights slot `s` of device `c` is to hold. -/
def origin (c : Dev nD) (s : Fin 8) : Dev nD := devAt (pos c - s)

theorem tgt_opp (d : Fin 3) (c : Dev nD) : tgt (opp d) (tgt d c) = c := by revert d c; decide +kernel
theorem tgt_opp' (d : Fin 3) (c : Dev nD) : tgt d (tgt (opp d) c) = c := by revert d c; decide +kernel
theorem opp_opp (d : Fin 3) : opp (opp d) = d := by revert d; decide +kernel
/-- A copy's two ends are to hold the same device's weights, -/
theorem origin_copy (j : Fin 14) (c : Dev nD) :
    origin c (slotOf (srcH j c)) = origin (tgt (chain j) c) (slotOf (lndH j (tgt (chain j) c))) := by
  revert j c; decide +kernel
/-- and the same experts of it. -/
theorem row_copy (j : Fin 14) (c : Dev nD) : rowOf (srcH j c) = rowOf (lndH j (tgt (chain j) c)) := by
  revert j c; decide +kernel
theorem origin_zero (c : Dev nD) : origin c 0 = c := by revert c; decide +kernel

/-! ## The kernel's own device and condition words -/

theorem dev1_eq (c : Dev nD) : (⟨k0_dev1 c, k0_dev1_lt c⟩ : Dev nD) = tgt 1 c := by revert c; decide +kernel
theorem dev2_eq (c : Dev nD) : (⟨k0_dev2 c, k0_dev2_lt c⟩ : Dev nD) = tgt 0 c := by revert c; decide +kernel
theorem dev3_eq (c : Dev nD) : (⟨k0_dev3 c, k0_dev3_lt c⟩ : Dev nD) = tgt 2 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 0 c := by revert c; decide +kernel
theorem dev6_eq (c : Dev nD) : (⟨k0_dev6 c, k0_dev6_lt c⟩ : Dev nD) = tgt 1 c := by revert c; decide +kernel
theorem dev7_eq (c : Dev nD) : (⟨k0_dev7 c, k0_dev7_lt c⟩ : Dev nD) = tgt 1 c := by revert c; decide +kernel
theorem dev8_eq (c : Dev nD) (h : k0_cond1 c = 1#1) : (⟨k0_dev8 c, k0_dev8_lt c h⟩ : Dev nD) = tgt 2 c := by revert c; decide +kernel
theorem dev9_eq (c : Dev nD) (h : k0_cond2 c = 1#1) : (⟨k0_dev9 c, k0_dev9_lt c h⟩ : Dev nD) = tgt 2 c := by revert c; decide +kernel
theorem dev10_eq (c : Dev nD) : (⟨k0_dev10 c, k0_dev10_lt c⟩ : Dev nD) = tgt 0 c := by revert c; decide +kernel
theorem dev11_eq (c : Dev nD) (h : k0_cond3 c = 1#1) : (⟨k0_dev11 c, k0_dev11_lt c h⟩ : Dev nD) = tgt 2 c := by revert c; decide +kernel
theorem dev12_eq (c : Dev nD) : (⟨k0_dev12 c, k0_dev12_lt c⟩ : Dev nD) = tgt 1 c := by revert c; decide +kernel
theorem dev13_eq (c : Dev nD) (h : k0_cond4 c = 1#1) : (⟨k0_dev13 c, k0_dev13_lt c h⟩ : Dev nD) = tgt 2 c := by revert c; decide +kernel
theorem dev14_eq (c : Dev nD) : (⟨k0_dev14 c, k0_dev14_lt c⟩ : Dev nD) = tgt 0 c := by revert c; decide +kernel
theorem dev15_eq (c : Dev nD) (h : k0_cond5 c = 1#1) : (⟨k0_dev15 c, k0_dev15_lt c h⟩ : Dev nD) = tgt 2 c := by revert c; decide +kernel
theorem dev16_eq (c : Dev nD) : (⟨k0_dev16 c, k0_dev16_lt c⟩ : Dev nD) = tgt 1 c := by revert c; decide +kernel
theorem dev17_eq (c : Dev nD) (h : k0_cond6 c = 1#1) : (⟨k0_dev17 c, k0_dev17_lt c h⟩ : Dev nD) = tgt 2 c := by revert c; decide +kernel
theorem dev18_eq (c : Dev nD) (h : k0_cond7 c = 1#1) : (⟨k0_dev18 c, k0_dev18_lt c h⟩ : Dev nD) = tgt 2 c := by revert c; decide +kernel
theorem dev19_eq (c : Dev nD) (h : k0_cond8 c = 1#1) : (⟨k0_dev19 c, k0_dev19_lt c h⟩ : Dev nD) = tgt 2 c := by revert c; decide +kernel
theorem dev20_eq (c : Dev nD) : (⟨k0_dev20 c, k0_dev20_lt c⟩ : Dev nD) = tgt 0 c := by revert c; decide +kernel
theorem dev21_eq (c : Dev nD) : (⟨k0_dev21 c, k0_dev21_lt c⟩ : Dev nD) = tgt 1 c := by revert c; decide +kernel

theorem cond1_iff (c : Dev nD) : k0_cond1 c = 1#1 ↔ evn c = true := by revert c; decide +kernel
theorem cond2_iff (c : Dev nD) : k0_cond2 c = 1#1 ↔ evn c = false := by revert c; decide +kernel
theorem cond3_iff (c : Dev nD) : k0_cond3 c = 1#1 ↔ evn c = true := by revert c; decide +kernel
theorem cond4_iff (c : Dev nD) : k0_cond4 c = 1#1 ↔ evn c = false := by revert c; decide +kernel
theorem cond5_iff (c : Dev nD) : k0_cond5 c = 1#1 ↔ evn c = true := by revert c; decide +kernel
theorem cond6_iff (c : Dev nD) : k0_cond6 c = 1#1 ↔ evn c = false := by revert c; decide +kernel
theorem cond7_iff (c : Dev nD) : k0_cond7 c = 1#1 ↔ evn c = true := by revert c; decide +kernel
theorem cond8_iff (c : Dev nD) : k0_cond8 c = 1#1 ↔ evn c = false := by revert c; decide +kernel

/-! ## The scratch buffer and its halves -/

/-- The scratch buffer of all eight slots. -/
abbrev sM : Memref sig .tc .vmem S8x4x256x512 .bf16 := Memref.whole cc0_scratch0

theorem hv_inb (h : Fin 16) : ∀ a, (![(slotOf h).val, rowOf h, 0, 0] : Fin 4 → ℕ) a + S1x2x256x512.size a ≤ S8x4x256x512.size a := by
  revert h; decide +kernel

/-- The rectangle of half `h`, -/
abbrev hR (h : Fin 16) : Rect S8x4x256x512 := Rect.unit (s := S8x4x256x512) ![(slotOf h).val, rowOf h, 0, 0] S1x2x256x512.size (hv_inb h)
/-- and the half as a reference. -/
abbrev hv (h : Fin 16) : Memref sig .tc .vmem S2x256x512 .bf16 :=
  (sM.slice (hR h) (fun _ => rfl)).squeeze S2x256x512 squeezes_S1x2x256x512_S2x256x512

theorem hv_set (h : Fin 16) : (hv h).view.set = (hR h).set := by
  show (((View.whole cc0_scratch0).slice (hR h)).reshape S2x256x512 _).set = _
  rw [View.set_reshape, View.set_slice_whole]

/-- Membership in a half, by the slot's and the expert's coordinates. -/
theorem mem_hv (h : Fin 16) (i : S8x4x256x512.Idx) :
    i ∈ (hR h).set ↔ (i 0).val = (slotOf h).val ∧ rowOf h ≤ (i 1).val ∧ (i 1).val < rowOf h + 2 := by
  rw [Rect.mem_set_unit]
  constructor
  · intro H
    have h0 := H 0; have h1 := H 1
    change (slotOf h).val ≤ (i 0).val ∧ (i 0).val < (slotOf h).val + 1 at h0
    change rowOf h ≤ (i 1).val ∧ (i 1).val < rowOf h + 2 at h1
    omega
  · rintro ⟨h0, h1, h2⟩ a
    have b2 := (i 2).isLt; have b3 := (i 3).isLt
    fin_cases a
    · show (slotOf h).val ≤ (i 0).val ∧ (i 0).val < (slotOf h).val + 1; omega
    · show rowOf h ≤ (i 1).val ∧ (i 1).val < rowOf h + 2; omega
    · show 0 ≤ (i 2).val ∧ (i 2).val < 0 + 256; exact ⟨Nat.zero_le _, by rw [Nat.zero_add]; exact b2⟩
    · show 0 ≤ (i 3).val ∧ (i 3).val < 0 + 512; exact ⟨Nat.zero_le _, by rw [Nat.zero_add]; exact b3⟩

theorem hv_disjoint (h h' : Fin 16) (hh : h ≠ h') : Disjoint (hR h).set (hR h').set := by
  rw [Finset.disjoint_left]
  intro i hi hi'
  rw [mem_hv] at hi hi'
  unfold slotOf rowOf at hi hi'
  dsimp only at hi hi'
  apply hh; apply Fin.ext; omega

theorem hv_cover : Finset.univ.biUnion (fun h : Fin 16 => (hR h).set) = (Finset.univ : Finset S8x4x256x512.Idx) := by
  ext i
  simp only [Finset.mem_biUnion, Finset.mem_univ, true_and, iff_true]
  have b0 : (i 0).val < 8 := (i 0).isLt
  have b1 : (i 1).val < 4 := (i 1).isLt
  refine ⟨⟨2 * (i 0).val + (i 1).val / 2, by omega⟩, ?_⟩
  rw [mem_hv]; unfold slotOf rowOf; dsimp only; omega

/-- The two halves of slot 0 are the slot. -/
theorem slot0_union : (hR 0).set ∪ (hR 1).set
    = (Rect.unit (s := S8x4x256x512) ![0, 0, 0, 0] S1x4x256x512.size inb_S8x4x256x512_S1x4x256x512_0_0_0_0).set := by
  ext i
  rw [Finset.mem_union, mem_hv, mem_hv, Rect.mem_set_unit]
  have b1 : (i 1).val < 4 := (i 1).isLt
  constructor
  · intro H a
    have e0 : (slotOf 0).val = 0 := rfl
    have e1 : (slotOf 1).val = 0 := rfl
    rw [e0, e1] at H
    have b2 := (i 2).isLt; have b3 := (i 3).isLt
    fin_cases a
    · show 0 ≤ (i 0).val ∧ (i 0).val < 0 + 1; omega
    · show 0 ≤ (i 1).val ∧ (i 1).val < 0 + 4; omega
    · show 0 ≤ (i 2).val ∧ (i 2).val < 0 + 256; exact ⟨Nat.zero_le _, by rw [Nat.zero_add]; exact b2⟩
    · show 0 ≤ (i 3).val ∧ (i 3).val < 0 + 512; exact ⟨Nat.zero_le _, by rw [Nat.zero_add]; exact b3⟩
  · intro H
    have h0 : 0 ≤ (i 0).val ∧ (i 0).val < 0 + 1 := H 0
    have e0 : (slotOf 0).val = 0 := rfl
    have e1 : (slotOf 1).val = 0 := rfl
    have r0 : rowOf 0 = 0 := rfl
    have r1 : rowOf 1 = 2 := rfl
    rw [e0, e1, r0, r1]; omega

/-! ## Contents -/

variable {F : FTy → Type} [FloatOps F]
variable (m : (ℓ : Loc nD τ sig) → Buf (Elt F) ℓ)

/-- Device `c`'s own weights as it stores them in slot 0. -/
def wOwn (c : Dev nD) : S1x4x256x512.Idx → Elt F .bf16 := k0_pay1 (iblk m c 3 t0_0)

/-- The index within a slot of an index of the buffer. -/
def inSlot (i : S8x4x256x512.Idx) : S1x4x256x512.Idx
  | ⟨0, _⟩ => ⟨0, Nat.one_pos⟩
  | ⟨1, _⟩ => i 1
  | ⟨2, _⟩ => i 2
  | ⟨3, _⟩ => i 3

/-- What device `c`'s scratch buffer holds at the end: in slot `s` the weights of the device `s` positions before. -/
def full (c : Dev nD) : cc0_scratch0.ty.Contents (Elt F) :=
  fun i : S8x4x256x512.Idx => wOwn m (origin c (i 0)) (inSlot i)

theorem full_apply (c : Dev nD) (i : S8x4x256x512.Idx) : full m c i = wOwn m (origin c (i 0)) (inSlot i) := rfl

/-- Where an index of a half sits in the buffer. -/
def hIx (h : Fin 16) (x : S2x256x512.Idx) : S8x4x256x512.Idx :=
  (hR h).emb (Shape.reshapeEquiv (s := S1x2x256x512) (s' := S2x256x512) squeezes_S1x2x256x512_S2x256x512.numel_eq x)

/-- It is offset by the half's corner. -/
theorem hIx_val (h : Fin 16) (x : S2x256x512.Idx) (a : Fin 4) :
    (hIx h x a).val = (![(slotOf h).val, rowOf h, 0, 0] : Fin 4 → ℕ) a
      + (Shape.reshapeEquiv (s := S1x2x256x512) (s' := S2x256x512) squeezes_S1x2x256x512_S2x256x512.numel_eq x a).val := by
  unfold hIx
  rw [Rect.emb_apply]
  show _ + 1 * _ = _
  rw [Nat.one_mul]
  rfl

theorem hIx_zero (h : Fin 16) (x : S2x256x512.Idx) : hIx h x 0 = slotOf h := by
  apply Fin.ext
  rw [hIx_val]
  have h1 : (Shape.reshapeEquiv (s := S1x2x256x512) (s' := S2x256x512) squeezes_S1x2x256x512_S2x256x512.numel_eq x 0).val < 1 := Fin.isLt _
  show (slotOf h).val + _ = _
  omega

omit [FloatOps F] in
theorem hv_write (h : Fin 16) (fd : cc0_scratch0.ty.Contents (Elt F)) (w : S2x256x512.Idx → Elt F .bf16) (x : S2x256x512.Idx) :
    (hv h).view.write (Elt F) fd w Finset.univ (hIx h x) = w x :=
  (View.write_emb_of_mem (v := (hv h).view) (Val := Elt F) fd w (Finset.mem_univ x)).trans (cast_eq _ _)

omit [FloatOps F] in
theorem hv_read (h : Fin 16) (f : cc0_scratch0.ty.Contents (Elt F)) (x : S2x256x512.Idx) :
    (hv h).view.read (Elt F) f x = f (hIx h x) := cast_eq _ _

/-- Two halves of the same rows hold the same when they are to hold the same device's weights. -/
theorem full_same (c c' : Dev nD) (h h' : Fin 16) (ho : origin c (slotOf h) = origin c' (slotOf h')) (hr : rowOf h = rowOf h')
    (x : S2x256x512.Idx) : full m c (hIx h x) = full m c' (hIx h' x) := by
  rw [full_apply, full_apply, hIx_zero, hIx_zero, ho]
  congr 1
  have e : ∀ a : Fin 4, a ≠ 0 → (hIx h x a).val = (hIx h' x a).val := by
    intro a ha
    rw [hIx_val, hIx_val]
    congr 1
    fin_cases a
    · exact absurd rfl ha
    · exact hr
    · rfl
    · rfl
  funext a
  match a with
  | ⟨0, _⟩ => rfl
  | ⟨1, _⟩ => exact Fin.ext (e 1 (by decide))
  | ⟨2, _⟩ => exact Fin.ext (e 2 (by decide))
  | ⟨3, _⟩ => exact Fin.ext (e 3 (by decide))

/-- What copy `j` of device `c` reads is what its target is to hold where it lands. -/
theorem landed (j : Fin 14) (c : Dev nD) (fd : cc0_scratch0.ty.Contents (Elt F)) :
    ∀ i ∈ (hv (lndH j (tgt (chain j) c))).view.set,
      (hv (lndH j (tgt (chain j) c))).view.write (Elt F) fd ((hv (srcH j c)).view.read (Elt F) (full m c)) Finset.univ i
        = full m (tgt (chain j) c) i := by
  intro i hi
  obtain ⟨x, -, hx⟩ := Finset.mem_map.mp hi
  have hx' : i = hIx (lndH j (tgt (chain j) c)) x := hx.symm
  rw [hx', hv_write, hv_read]
  exact full_same m c _ _ _ (origin_copy j c) (row_copy j c) x

/-- The store of a device's own weights makes slot 0 what it is to hold. -/
theorem stored (c : Dev nD) (f : cc0_scratch0.ty.Contents (Elt F)) :
    ∀ i ∈ (Rect.unit (s := S8x4x256x512) ![0, 0, 0, 0] S1x4x256x512.size inb_S8x4x256x512_S1x4x256x512_0_0_0_0).set,
      (sM.access (Rect.unit (s := S8x4x256x512) ![0, 0, 0, 0] S1x4x256x512.size inb_S8x4x256x512_S1x4x256x512_0_0_0_0)).write (Elt F) f
        (wOwn m c) Finset.univ i = full m c i := by
  intro i hi
  rw [← Rect.map_emb_univ] at hi
  obtain ⟨x, -, rfl⟩ := Finset.mem_map.mp hi
  have hw : ∀ (r : Rect S8x4x256x512) (w : r.shape.Idx → Elt F .bf16) (x : r.shape.Idx),
      (sM.access r).write (Elt F) f w Finset.univ (r.emb x) = w x := fun r w x =>
    (View.write_emb_of_mem (v := sM.access r) (Val := Elt F) f w (Finset.mem_univ x)).trans (cast_eq _ _)
  rw [hw, full_apply]
  have e0 : (Rect.unit (s := S8x4x256x512) ![0, 0, 0, 0] S1x4x256x512.size inb_S8x4x256x512_S1x4x256x512_0_0_0_0).emb x 0 = (0 : Fin 8) := by
    apply Fin.ext
    rw [Rect.emb_apply]
    have : (x 0).val < 1 := (x 0).isLt
    show 0 + 1 * (x 0).val = 0; omega
  rw [e0, origin_zero]
  congr 1
  funext a
  match a with
  | ⟨0, _⟩ => exact Fin.ext (by have : (x 0).val < 1 := (x 0).isLt; show (x 0).val = 0; omega)
  | ⟨1, _⟩ => exact Fin.ext (by show (x 1).val = 0 + 1 * (x 1).val; omega)
  | ⟨2, _⟩ => exact Fin.ext (by show (x 2).val = 0 + 1 * (x 2).val; omega)
  | ⟨3, _⟩ => exact Fin.ext (by show (x 3).val = 0 + 1 * (x 3).val; omega)

end Cert.MoeProof

end
-- ==== Proof.Sched.lean ====
/-
# The schedule of the copies

Every device has a barrier cell with three duties of one unit, one per chain, and for each of its fourteen copies a
send cell and a receive cell with one duty of a copy's credit. All of them are of round 0.
-/
module

public import proofs.«01_k».proof.Proof.Mesh

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The barrier semaphore, -/
abbrev barS : Sem sig := (SemArray.scalar (sig.barrier 0 rfl) : Sems sig S_).sem
/-- copy `j`'s send semaphore, -/
def sndS (j : Fin 14) : DmaSem sig := (![5, 6, 7, 8, 9, 15, 16, 17, 18, 19, 25, 26, 27, 28] : Fin 14 → Fin 33) j
/-- copy `j`'s receive semaphore. -/
def rcvS (j : Fin 14) : DmaSem sig := (![10, 11, 12, 13, 14, 20, 21, 22, 23, 24, 29, 30, 31, 32] : Fin 14 → Fin 33) j

/-- The kernel's scoped semaphores: send, receive; -/
abbrev osem : Fin 14 ⊕ Fin 14 → SemLoc sig := fun | .inl j => .dma (sndS j) | .inr j => .dma (rcvS j)
/-- all its semaphores: the barrier first. -/
abbrev CK : Type := Unit ⊕ (Fin 14 ⊕ Fin 14)
abbrev csem : CK → SemLoc sig := fun | .inl _ => .reg barS | .inr k => osem k
abbrev kcell (ck : Dev nD × CK) : GSem nD τ sig := ((ck.1 : Thread nD τ), csem ck.2)

abbrev barCell (c : Dev nD) : GSem nD τ sig := ((c : Thread nD τ), .reg barS)
abbrev sndCell (c : Dev nD) (j : Fin 14) : GSem nD τ sig := ((c : Thread nD τ), .dma (sndS j))
abbrev rcvCell (c : Dev nD) (j : Fin 14) : GSem nD τ sig := ((c : Thread nD τ), .dma (rcvS j))

/-- A copy's credit. -/
abbrev N : ℕ := (hv 0).view.dmaCredit
theorem N_pos : 0 < N := View.dmaCredit_pos _ (by decide)

/-- What a DMA semaphore is for: nothing of the copies', copy `j`'s send, copy `j`'s receive. -/
def clsD (s : Fin 33) : Option (Fin 14 ⊕ Fin 14) :=
  (![none, none, none, none, none, some (.inl 0), some (.inl 1), some (.inl 2), some (.inl 3), some (.inl 4),
    some (.inr 0), some (.inr 1), some (.inr 2), some (.inr 3), some (.inr 4),
    some (.inl 5), some (.inl 6), some (.inl 7), some (.inl 8), some (.inl 9),
    some (.inr 5), some (.inr 6), some (.inr 7), some (.inr 8), some (.inr 9),
    some (.inl 10), some (.inl 11), some (.inl 12), some (.inl 13),
    some (.inr 10), some (.inr 11), some (.inr 12), some (.inr 13)] : Fin 33 → Option (Fin 14 ⊕ Fin 14)) s
/-- What a semaphore is for. -/
def cls : SemLoc sig → Option CK
  | .reg s => if s = barS then some (.inl ()) else none
  | .dma s => (clsD s).map .inr

theorem cls_csem (k : CK) : cls (csem k) = some k := by
  revert k; decide +kernel
theorem csem_of_cls (s : SemLoc sig) (k : CK) (h : cls s = some k) : s = csem k := by
  revert s k; decide +kernel
theorem csem_injective : Function.Injective csem := fun k k' h => by
  have := congrArg cls h
  rw [cls_csem, cls_csem] at this
  exact Option.some.inj this

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-! ## What is held of the scratch buffer -/

/-- Half `h` of device `c`'s scratch buffer, at share `q` and contents `f`. -/
def half (c : Dev nD) (h : Fin 16) (q : PosShare TreeShare) (f : cc0_scratch0.ty.Contents (Elt F)) : sProp 𝕄 :=
  ((c : Thread nD τ).loc cc0_scratch0) ↦[(hR h).set]{q} f
omit [FloatOps F] in
instance half_storable (c : Dev nD) (h : Fin 16) (q) (f) : BI.Storable (upEmb : UEmb _ 𝕄) (half (F := F) c h q f) := by unfold half; infer_instance

/-- A share in four: one per chain, one kept. -/
def shr (t : Fin 4) : PosShare TreeShare :=
  (![fullShare.left.left, fullShare.left.right, fullShare.right.left, fullShare.right.right] : Fin 4 → PosShare TreeShare) t

/-- A piece of the buffer: a half's part at one of the four shares, at its final contents. -/
def pc (c : Dev nD) (x : Fin 16 × Fin 4) : sProp 𝕄 := half c x.1 (shr x.2) (full m c)
instance pc_storable (c : Dev nD) (x) : BI.Storable (upEmb : UEmb _ 𝕄) (pc m c x) := by unfold pc; infer_instance

/-- The piece copy `j` of device `c` reads. -/
def srcP (j : Fin 14) (c : Dev nD) : Fin 16 × Fin 4 := (srcH j c, (chain j).castSucc)

omit [FloatOps F] in
theorem half_quarters (c : Dev nD) (h : Fin 16) (f : cc0_scratch0.ty.Contents (Elt F)) :
    (half c h fullShare f : sProp 𝕄) = bigSep Finset.univ fun t : Fin 4 => half c h (shr t) f := by
  have sp : ∀ q : PosShare TreeShare, (half c h q f : sProp 𝕄) = iprop(half c h q.left f ∗ half c h q.right f) := fun q =>
    BI.Entails.antisymm (pointsTo_share (PosShare.mem_left_op_right q)).1 (pointsTo_share (PosShare.mem_left_op_right q)).2
  rw [bigSep_univ_eq_bigSepL [0, 1, 2, 3] (by decide) (by decide), bigSepL_cons_cons, bigSepL_cons_cons, bigSepL_cons_cons, bigSepL_singleton,
    sp fullShare, sp fullShare.left, sp fullShare.right]
  refine BI.Entails.antisymm ?_ ?_
  · show iprop((half c h (shr 0) f ∗ half c h (shr 1) f) ∗ half c h (shr 2) f ∗ half c h (shr 3) f)
      ⊢ iprop(half c h (shr 0) f ∗ half c h (shr 1) f ∗ half c h (shr 2) f ∗ half c h (shr 3) f)
    iintro ⟨⟨H1, H2⟩, H3, H4⟩
    isplitl [H1]; · iexact H1
    isplitl [H2]; · iexact H2
    isplitl [H3]; · iexact H3
    iexact H4
  · show iprop(half c h (shr 0) f ∗ half c h (shr 1) f ∗ half c h (shr 2) f ∗ half c h (shr 3) f)
      ⊢ iprop((half c h (shr 0) f ∗ half c h (shr 1) f) ∗ half c h (shr 2) f ∗ half c h (shr 3) f)
    iintro ⟨H1, H2, H3, H4⟩
    isplitl [H1 H2]
    · isplitl [H1]; · iexact H1
      iexact H2
    isplitl [H3]; · iexact H3
    iexact H4

/-! ## The schedule -/

/-- What the device chain `d` leads to hands device `c` at the barrier: the halves `c`'s copies of that chain fill. -/
def barPay (c : Dev nD) (d : Fin 3) : sProp 𝕄 :=
  bigSep (Finset.univ.filter fun j : Fin 14 => chain j = d) fun j => iprop(∃ f, half (tgt d c) (lndH j (tgt d c)) fullShare f)
omit [FloatOps F] in
instance barPay_storable (c : Dev nD) (d) : BI.Storable (upEmb : UEmb _ 𝕄) (barPay (F := F) c d) := by unfold barPay; infer_instance

def payOf (c : Dev nD) (d : Fin 3) : Option CK → sProp 𝕄
  | none => iprop(emp)
  | some (.inl _) => barPay c d
  | some (.inr (.inl j)) => pc m c (srcP j c)
  | some (.inr (.inr j)) => half c (lndH j c) fullShare (full m c)

instance payOf_storable (c : Dev nD) (d) (k) : BI.Storable (upEmb : UEmb _ 𝕄) (payOf m c d k) := by
  unfold payOf; split <;> infer_instance

def dutiesOf : Option CK → Finset (Fin 3)
  | none => ∅
  | some (.inl _) => Finset.univ
  | some (.inr _) => {0}
def amountOf : Option CK → ℕ
  | some (.inl _) => 1
  | _ => N

def rd : Rounds.Schedule (GSem nD τ sig) (Fin 3) 𝕄 where
  duties g r := if r = 0 ∧ g.1.2 = .tc then dutiesOf (cls g.2) else ∅
  unitless _ := False
  amount g _ _ := amountOf (cls g.2)
  payload g _ d := payOf m g.1.1 d (cls g.2)
  amount_pos g _ _ _ := by unfold amountOf; split; · exact Nat.one_pos
                           · exact N_pos

instance rd_payload_storable (g : GSem nD τ sig) (r : ℕ) (d : Fin 3) :
    BI.Storable (upEmb : UEmb _ 𝕄) ((rd (F := F) m).payload g r d) := payOf_storable m _ _ _

theorem duties_cell (c : Dev nD) (k : CK) : (rd (F := F) m).duties (kcell (c, k)) 0 = dutiesOf (some k) := by
  show (if (0 : ℕ) = 0 ∧ ((c : Thread nD τ)).2 = .tc then dutiesOf (cls (csem k)) else ∅) = _
  rw [cls_csem, if_pos ⟨rfl, rfl⟩]
theorem duties_later (g : GSem nD τ sig) : ∀ r, 1 ≤ r → (rd (F := F) m).duties g r = ∅ :=
  fun r hr => if_neg fun h => by omega
theorem amount_cell (c : Dev nD) (k : CK) (d) : (rd (F := F) m).amount (kcell (c, k)) 0 d = amountOf (some k) := by
  show amountOf (cls (csem k)) = _
  rw [cls_csem]
theorem payload_cell (c : Dev nD) (k : CK) (d) : (rd (F := F) m).payload (kcell (c, k)) 0 d = payOf m c d (some k) := by
  show payOf m c d (cls (csem k)) = _
  rw [cls_csem]

theorem expect_bar (c : Dev nD) : (rd (F := F) m).expect (barCell c) 0 = 3 := by
  unfold Schedule.expect Schedule.amountOf
  rw [show (rd (F := F) m).duties (barCell c) 0 = Finset.univ from duties_cell m c (.inl ()),
    Finset.sum_congr rfl fun d _ => amount_cell m c (.inl ()) d]
  rfl
theorem expect_dma (c : Dev nD) (k : Fin 14 ⊕ Fin 14) : (rd (F := F) m).expect (kcell (c, .inr k)) 0 = N := by
  unfold Schedule.expect Schedule.amountOf
  rw [duties_cell, show dutiesOf (some (.inr k)) = {0} from rfl, Finset.sum_singleton, amount_cell]
  rfl

theorem rest_bar (c : Dev nD) : bigSep ((rd (F := F) m).duties (barCell c) 0 \ ∅) (fun d => (rd (F := F) m).payload (barCell c) 0 d)
    = bigSep Finset.univ fun d : Fin 3 => barPay c d := by
  rw [Finset.sdiff_empty, show (rd (F := F) m).duties (barCell c) 0 = Finset.univ from duties_cell m c (.inl ())]
  exact bigSep_congr fun d _ => payload_cell m c (.inl ()) d
theorem rest_dma (c : Dev nD) (k : Fin 14 ⊕ Fin 14) :
    bigSep ((rd (F := F) m).duties (kcell (c, .inr k)) 0 \ ∅) (fun d => (rd (F := F) m).payload (kcell (c, .inr k)) 0 d) = payOf m c 0 (some (.inr k)) := by
  rw [Finset.sdiff_empty, duties_cell, show dutiesOf (some (.inr k)) = {0} from rfl, bigSep_singleton, payload_cell]

/-! ## What a device owes; levels -/

/-- The receive credit of the copies in `U`. -/
def ow (c : Dev nD) (U : Finset (Fin 14)) : CellTallies nD τ sig Unit := ∑ j ∈ U, tallyAt (rcvCell (tgt (chain j) c) j) () N
/-- At launch also a unit to each of the three barriers. -/
def O₀ (c : Dev nD) : CellTallies nD τ sig Unit :=
  ow c Finset.univ + tallyAt (barCell (tgt 2 c)) () 1 + tallyAt (barCell (tgt 0 c)) () 1 + tallyAt (barCell (tgt 1 c)) () 1

/-- A receive cell's level: the later its copy is issued, the higher. -/
def lvR (j : Fin 14) : ℕ := (![2, 2, 3, 3, 4, 2, 2, 3, 3, 4, 2, 3, 3, 4] : Fin 14 → ℕ) j
theorem lvR_pos : ∀ j, 0 < lvR j := by decide +kernel
def lvOf : Option CK → ℕ
  | some (.inl _) => 1
  | some (.inr (.inr j)) => lvR j
  | _ => 0
def L (g : GSem nD τ sig) : Finset Unit := if g.1.2 = .tc then {()} else ∅
def lv (g : GSem nD τ sig) (_ : Unit) : ℕ := lvOf (cls g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (kcell (c, k)) () = lvOf (some k) := by
  show lvOf (cls (csem k)) = _
  rw [cls_csem]

theorem ow_pos {c : Dev nD} {U : Finset (Fin 14)} {g : GSem nD τ sig} {u : Unit} (h : 0 < ow c U g u) :
    ∃ j ∈ U, g = rcvCell (tgt (chain j) c) j := by
  by_contra hn
  have : ow c U g u = 0 := by
    unfold ow
    rw [Finset.sum_apply, Finsupp.finset_sum_apply]
    refine Finset.sum_eq_zero fun j hj => ?_
    rw [tallyAt_apply, if_neg]
    exact fun h' => hn ⟨j, hj, h'.1⟩
  omega

theorem O₀_pos {c : Dev nD} {g : GSem nD τ sig} {u : Unit} (h : 0 < O₀ c g u) :
    (∃ j, g = rcvCell (tgt (chain j) c) j) ∨ ∃ d, g = barCell (tgt d c) := by
  unfold O₀ at h
  simp only [Pi.add_apply, Finsupp.add_apply, tallyAt_apply] at h
  by_contra hn
  rw [not_or] at hn
  rw [if_neg (fun h' => hn.2 ⟨2, h'.1⟩), if_neg (fun h' => hn.2 ⟨0, h'.1⟩), if_neg (fun h' => hn.2 ⟨1, h'.1⟩)] at h
  obtain ⟨j, -, hj⟩ := ow_pos (c := c) (U := Finset.univ) (g := g) (u := u) (by omega)
  exact hn.1 ⟨j, hj⟩

omit [FloatOps F] in
/-- A wait below every cell still owed. -/
theorem mayWait (c : Dev nD) (k : CK) (U : Finset (Fin 14)) (hU : ∀ j ∈ U, lvOf (some k) < lvR j) :
    (levAts L lv : sProp 𝕄) ⊢ MayWait (c : Thread nD τ) (csem k) () (ow c U) :=
  MayOwe.of_cut (L := L) (lev := lv) (lvOf (some k)) (fun p hp => by rw [Finset.mem_singleton.mp hp, L_tc]; exact Finset.mem_singleton_self _)
    (fun g u hg => by obtain ⟨j, -, rfl⟩ := ow_pos hg; rw [L_tc]; exact Finset.mem_singleton_self _)
    (fun p hp => by rw [Finset.mem_singleton.mp hp]; exact (lv_cell c k).le)
    (fun g u hg => by
      obtain ⟨j, hj, rfl⟩ := ow_pos hg
      exact (hU j hj).trans_le (lv_cell (tgt (chain j) c) (.inr (.inr j))).ge)

omit [FloatOps F] in
/-- The staging cells' waits, at launch and at the end. -/
theorem mayWait_stage (c : Dev nD) (q : DmaSem sig) (hq : clsD q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> (rw [L_tc]; exact Finset.mem_singleton_self _))
      (fun p hp => by
        rw [Finset.mem_singleton.mp hp]
        show lvOf ((clsD q).map .inr) ≤ 0
        rw [hq]; exact le_refl _)
      (fun g u hg => by
        rcases O₀_pos hg with ⟨j, rfl⟩ | ⟨d, rfl⟩
        · rw [show u = () from rfl, lv_cell (tgt (chain j) c) (.inr (.inr j))]; exact lvR_pos j
        · rw [show u = () from rfl, lv_cell (tgt d c) (.inl ())]; decide)
  · rw [MayWait_zero]; iintro -; iempintro

/-! ## The state of a device between two of its operations -/

/-- The copies not yet issued, those issued and not waited for, the receives not waited for, the pieces held, the closed
    send cells and the closed receive cells. -/
structure Sg where
  U : Finset (Fin 14)
  Fl : Finset (Fin 14)
  P : Finset (Fin 14)
  A : Finset (Fin 16 × Fin 4)
  Zs : Finset (Fin 14)
  Zr : Finset (Fin 14)

/-- The operations on the copies: issue copy `j` (on devices of one parity only), wait for its send, wait for its receive. -/
inductive Ev where
  | send (j : Fin 14)
  | sendIf (b : Bool) (j : Fin 14)
  | sw (j : Fin 14)
  | rw (j : Fin 14)

def Sg.send (c : Dev nD) (S : Sg) (j : Fin 14) : Sg :=
  { S with U := S.U.erase j, Fl := insert j S.Fl, A := S.A.erase (srcP j c) }
def Sg.sndDone (c : Dev nD) (S : Sg) (j : Fin 14) : Sg :=
  { S with Fl := S.Fl.erase j, A := insert (srcP j c) S.A, Zs := insert j S.Zs }
def Sg.rcvDone (c : Dev nD) (S : Sg) (j : Fin 14) : Sg :=
  { S with P := S.P.erase j, A := S.A ∪ Finset.univ.map ⟨fun t : Fin 4 => (lndH j c, t), fun _ _ h => (Prod.mk.inj h).2⟩, Zr := insert j S.Zr }

def stp (c : Dev nD) (S : Sg) : Ev → Sg
  | .send j => S.send c j
  | .sendIf b j => if evn c = b then S.send c j else S
  | .sw j => S.sndDone c j
  | .rw j => S.rcvDone c j

/-- What makes an operation possible. -/
def sendOk (c : Dev nD) (S : Sg) (j : Fin 14) : Prop := j ∈ S.U ∧ j ∉ S.Fl ∧ srcP j c ∈ S.A
def ok (c : Dev nD) (S : Sg) : Ev → Prop
  | .send j => sendOk c S j
  | .sendIf b j => evn c = b → sendOk c S j
  | .sw j => j ∈ S.Fl ∧ j ∉ S.Zs ∧ srcP j c ∉ S.A ∧ ∀ j' ∈ S.U, 0 < lvR j'
  | .rw j => j ∈ S.P ∧ j ∉ S.Zr ∧ (∀ t : Fin 4, (lndH j c, t) ∉ S.A) ∧ ∀ j' ∈ S.U, lvR j < lvR j'
instance (c : Dev nD) (S : Sg) (j) : Decidable (sendOk c S j) := inferInstanceAs (Decidable (_ ∧ _ ∧ _))
def okB (c : Dev nD) (S : Sg) : Ev → Bool
  | .send j => decide (sendOk c S j)
  | .sendIf b j => if evn c = b then decide (sendOk c S j) else true
  | .sw j => decide (j ∈ S.Fl ∧ j ∉ S.Zs ∧ srcP j c ∉ S.A ∧ ∀ j' ∈ S.U, 0 < lvR j')
  | .rw j => decide (j ∈ S.P ∧ j ∉ S.Zr ∧ (∀ t : Fin 4, (lndH j c, t) ∉ S.A) ∧ ∀ j' ∈ S.U, lvR j < lvR j')
theorem ok_of_okB (c : Dev nD) (S : Sg) (e : Ev) (h : okB c S e = true) : ok c S e := by
  cases e with
  | send j => exact of_decide_eq_true (p := sendOk c S j) h
  | sendIf b j =>
    intro hb
    have h' : (if evn c = b then decide (sendOk c S j) else true) = true := h
    rw [if_pos hb] at h'
    exact of_decide_eq_true h'
  | sw j => exact of_decide_eq_true (p := _ ∧ _ ∧ _ ∧ _) h
  | rw j => exact of_decide_eq_true (p := _ ∧ _ ∧ _ ∧ _) h

/-- After the barrier a device holds slot 0 whole and has everything to do. -/
def sg0 : Sg where
  U := Finset.univ
  Fl := ∅
  P := Finset.univ
  A := Finset.univ.filter fun x => x.1 = 0 ∨ x.1 = 1
  Zs := ∅
  Zr := ∅

/-- The kernel's operations in order. -/
def evs : List Ev :=
  [.send 0, .send 1, .send 5, .send 6, .sendIf true 10, .sendIf false 10,
    .sw 0, .rw 0, .send 2, .sendIf true 11,
    .sw 5, .rw 5, .send 7, .sendIf false 11,
    .sw 1, .rw 1, .send 3, .sendIf true 12,
    .sw 6, .rw 6, .send 8, .sendIf false 12,
    .sw 10, .rw 10, .sw 2, .rw 2, .sendIf true 13, .sw 7, .rw 7, .sendIf false 13,
    .sw 3, .rw 3, .send 4, .sw 8, .rw 8, .send 9,
    .sw 11, .rw 11, .sw 12, .rw 12, .sw 4, .rw 4, .sw 9, .rw 9, .sw 13, .rw 13]

/-- The state after the first `n` of them. -/
def sg (c : Dev nD) (n : ℕ) : Sg := (evs.take n).foldl (stp c) sg0

theorem sg_succ (c : Dev nD) (n : ℕ) (e : Ev) (h : evs[n]? = some e) : sg c (n + 1) = stp c (sg c n) e := by
  unfold sg
  rw [List.take_add_one, h, List.foldl_append]
  rfl

def okAt (c : Dev nD) (n : ℕ) : Bool := match evs[n]? with | some e => okB c (sg c n) e | none => false

theorem all_ok : ∀ (n : Fin 46) (c : Dev nD), okAt c n.val = true := by decide +kernel

theorem ok_at (c : Dev nD) (n : ℕ) (e : Ev) (h : evs[n]? = some e) : ok c (sg c n) e := by
  have hn : n < 46 := (List.getElem?_eq_some_iff.mp h).1
  have := all_ok ⟨n, hn⟩ c
  unfold okAt at this
  rw [show evs[(⟨n, hn⟩ : Fin 46).val]? = some e from h] at this
  exact ok_of_okB c _ e this

end Cert.MoeProof

end
-- ==== Proof.Rules.lean ====
/-
# The rules of one device's operations

What a device holds between two operations, as a function of how many of them it has done, and for each kind of
operation the rule that takes it one further.
-/
module

public import proofs.«01_k».proof.Proof.Sched

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem sep_erase {I : Type} [DecidableEq I] {A : Finset I} {i : I} (Φ : I → sProp (MT nD τ sig Unit (Elt F) ℕ UU ℕ)) (h : i ∈ A) : bigSep A Φ = iprop(Φ i ∗ bigSep (A.erase i) Φ) := bigSep_erase h
theorem sep_insert {I : Type} [DecidableEq I] {A : Finset I} {i : I} (Φ : I → sProp (MT nD τ sig Unit (Elt F) ℕ UU ℕ)) (h : i ∉ A) : bigSep (insert i A) Φ = iprop(Φ i ∗ bigSep A Φ) := bigSep_insert h
theorem sep_union {I : Type} [DecidableEq I] {A B : Finset I} (Φ : I → sProp (MT nD τ sig Unit (Elt F) ℕ UU ℕ)) (h : Disjoint A B) : bigSep (A ∪ B) Φ = iprop(bigSep A Φ ∗ bigSep B Φ) := bigSep_union h
theorem sep_elim {I : Type} [DecidableEq I] {A : Finset I} {i : I} (Φ : I → sProp (MT nD τ sig Unit (Elt F) ℕ UU ℕ)) (h : i ∈ A) : bigSep A Φ ⊢ Φ i := bigSep_elim h

/-! ## What a device holds -/

variable (K : Dev nD × CK → ℕ)

/-- The invariants of all cells, and that all are at round 0. -/
def records : sProp 𝕄 :=
  iprop((bigSep Finset.univ fun ck : Dev nD × CK => cellInv ER (rd m) (K ck) (kcell ck))
    ∗ bigSep Finset.univ fun ck : Dev nD × CK => reached ER (kcell ck) 0)
instance records_persistent : BI.Persistent (records m K) := by unfold records; infer_instance

theorem inv_at (ck : Dev nD × CK) : records m K ⊢ cellInv ER (rd m) (K ck) (kcell ck) := by
  unfold records
  iintro ⟨H, -⟩
  iapply (sep_elim (fun ck : Dev nD × CK => (cellInv ER (rd m) (K ck) (kcell ck) : sProp 𝕄)) (Finset.mem_univ ck))
  iexact H
theorem reached_at (ck : Dev nD × CK) : records m K ⊢ reached ER (kcell ck) 0 := by
  unfold records
  iintro ⟨-, H⟩
  iapply (sep_elim (fun ck : Dev nD × CK => (reached ER (kcell ck) 0 : sProp 𝕄)) (Finset.mem_univ ck))
  iexact H

/-- For a copy not yet issued: the tokens of its two duties, the send cell's position, the half it fills. -/
def toSend (c : Dev nD) (j : Fin 14) : sProp 𝕄 :=
  iprop(dutyTok ER (sndCell c j) 0 0 ∗ dutyTok ER (rcvCell (tgt (chain j) c) j) 0 0 ∗ atPos ER (sndCell c j) 0 ∅ 0
    ∗ ∃ f, half (tgt (chain j) c) (lndH j (tgt (chain j) c)) fullShare f)
/-- For a copy in flight: the send cell's position and the credit to wait with. -/
def inFl (c : Dev nD) (j : Fin 14) : sProp 𝕄 := iprop(atPos ER (sndCell c j) 0 ∅ 0 ∗ cred (tallyAt (sndCell c j) () N))
/-- For a copy to be received: the receive cell's position and the credit. -/
def pend (c : Dev nD) (j : Fin 14) : sProp 𝕄 := iprop(atPos ER (rcvCell c j) 0 ∅ 0 ∗ cred (tallyAt (rcvCell c j) () N))

/-- All of it in state `S`. -/
def StS (c : Dev nD) (S : Sg) : sProp 𝕄 :=
  iprop((records m K ∗ levAts L lv) ∗ (∃ W, owes (c : Thread nD τ) (ow c S.U) W)
    ∗ bigSep S.U (toSend c) ∗ bigSep S.Fl (inFl c) ∗ bigSep S.P (pend c) ∗ bigSep S.A (pc m c)
    ∗ bigSep S.Zs (fun j => semVal (sndCell c j) 0) ∗ bigSep S.Zr (fun j => semVal (rcvCell c j) 0))
/-- After `n` operations. -/
abbrev St (c : Dev nD) (n : ℕ) : sProp 𝕄 := StS m K c (sg c n)

theorem ow_erase (c : Dev nD) {U : Finset (Fin 14)} {j : Fin 14} (h : j ∈ U) :
    ow c U = ow c (U.erase j) + tallyAt (rcvCell (tgt (chain j) c) j) () N := by
  unfold ow
  rw [Finset.sum_erase_add _ _ h]

theorem half_view (c : Dev nD) (h : Fin 16) (q) (f : cc0_scratch0.ty.Contents (Elt F)) :
    (half c h q f : sProp 𝕄) = ((hv h).view.loc (c : Thread nD τ) ↦[(hv h).view.set]{q} f) := by
  unfold half; rw [hv_set]

/-- What lands is the payload of the receive cell. -/
theorem landed_pay (j : Fin 14) (c : Dev nD) (fd : cc0_scratch0.ty.Contents (Elt F)) :
    ((hv (lndH j (tgt (chain j) c))).view.loc (tgt (chain j) c : Thread nD τ) ↦[(hv (lndH j (tgt (chain j) c))).view.set]{fullShare}
        ((hv (lndH j (tgt (chain j) c))).view.write (Elt F) fd ((hv (srcH j c)).view.read (Elt F) (full m c)) Finset.univ))
      ⊢ (rd (F := F) m).payload (rcvCell (tgt (chain j) c) j) 0 0 := by
  rw [payload_cell m (tgt (chain j) c) (.inr (.inr j)) 0]
  show _ ⊢ half (tgt (chain j) c) (lndH j (tgt (chain j) c)) fullShare (full m (tgt (chain j) c))
  rw [half_view]
  exact Entails.of_eq (pointsTo_congr (landed m j c fd))

theorem source_pay (j : Fin 14) (c : Dev nD) :
    ((hv (srcH j c)).view.loc (c : Thread nD τ) ↦[(hv (srcH j c)).view.set]{shr (chain j).castSucc} (full m c))
      ⊢ (rd (F := F) m).payload (sndCell c j) 0 0 := by
  rw [payload_cell m c (.inr (.inl j)) 0]
  exact Entails.of_eq (half_view c (srcH j c) _ (full m c)).symm

theorem credit (h : Fin 16) (s : DmaSem sig) : (hv h).view.amount (.dma s) = N := rfl
theorem duty_snd (c : Dev nD) (j : Fin 14) : (0 : Fin 3) ∈ (rd (F := F) m).duties (sndCell c j) 0 := by
  rw [duties_cell m c (.inr (.inl j))]; exact Finset.mem_singleton_self _
theorem duty_rcv (c : Dev nD) (j : Fin 14) : (0 : Fin 3) ∈ (rd (F := F) m).duties (rcvCell c j) 0 := by
  rw [duties_cell m c (.inr (.inr j))]; exact Finset.mem_singleton_self _

/-- A copy's transfer, over the library's rule. -/
theorem wp_copy (c : Dev nD) (j : Fin 14) (U : Finset (Fin 14)) (hU : j ∈ U)
    {hsc : (hv (lndH j (tgt (chain j) c)) : Memref sig (Dev.tc (tgt (chain j) c) : Thread nD τ).2.kind .vmem S2x256x512 .bf16).view.ref.isScScratch = false}
    {hsrc : (hv (srcH j c)).view.WordExact} {hdst : (hv (lndH j (tgt (chain j) c))).view.WordExact}
    {hsem : DmaTarget.Typed .vmem (.dma (rcvS j)) (.remote (Dev.tc (tgt (chain j) c) : Thread nD τ) (hv (lndH j (tgt (chain j) c))) (.dma (sndS j)) hsc)}
    {α : Type} {Q : α → sProp 𝕄} {k : PUnit → Prog (TpuEff nD τ sig (Elt F) Λ₀ .tc) α} (fd : cc0_scratch0.ty.Contents (Elt F)) (W : Waits sig Unit) :
    iprop(cellInv ER (rd m) (K (c, .inr (.inl j))) (sndCell c j) ∗ cellInv ER (rd m) (K (tgt (chain j) c, .inr (.inr j))) (rcvCell (tgt (chain j) c) j)
        ∗ ((hv (srcH j c)).view.loc (c : Thread nD τ) ↦[(hv (srcH j c)).view.set]{shr (chain j).castSucc} (full m c))
        ∗ ((hv (lndH j (tgt (chain j) c))).view.loc (tgt (chain j) c : Thread nD τ) ↦[(hv (lndH j (tgt (chain j) c))).view.set]{fullShare} fd)
        ∗ owes (c : Thread nD τ) (ow c U) W
        ∗ dutyTok ER (sndCell c j) 0 0 ∗ reached ER (sndCell c j) 0
        ∗ dutyTok ER (rcvCell (tgt (chain j) c) j) 0 0 ∗ reached ER (rcvCell (tgt (chain j) c) j) 0)
      ⊢ iprop(((cred (tallyAt (sndCell c j) () N) ∗ owes (c : Thread nD τ) (ow c (U.erase j)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hv (srcH j c)) (.remote (Dev.tc (tgt (chain j) c) : Thread nD τ) (hv (lndH j (tgt (chain j) c))) (.dma (sndS j)) hsc) (.dma (rcvS j)) hsrc hdst hsem) k) Q) :=
  Rounds.wp_send_pointsTo 𝒱₀ ER (rd m) (c : Thread nD τ) none (c' := (tgt (chain j) c : Thread nD τ)) (src := hv (srcH j c)) (dst := hv (lndH j (tgt (chain j) c)))
    (sS := .dma (sndS j)) (sem := .dma (rcvS j)) (κ₁ := K (c, .inr (.inl j))) (κ₂ := K (tgt (chain j) c, .inr (.inr j)))
    (r₁ := 0) (r₂ := 0) (d₁ := 0) (d₂ := 0) (fd := fd) (fs := full m c) (q := shr (chain j).castSucc)
    (duty_snd m c j) (duty_rcv m (tgt (chain j) c) j)
    () () N (credit _ _) (amount_cell m c (.inr (.inl j)) 0) (amount_cell m (tgt (chain j) c) (.inr (.inr j)) 0) (ow c (U.erase j)) (ow_erase c hU) (W := W)
    (source_pay m j c) (landed_pay m j c fd)

set_option maxHeartbeats 800000 in
/-- Issue copy `j`, its source, target half and target device spelled by the program. -/
theorem send_rule (c t : Dev nD) (S : Sg) (j : Fin 14) (h h' : Fin 16) (ht : t = tgt (chain j) c) (hh : h = srcH j c) (hh' : h' = lndH j t)
    (ho : sendOk c S j)
    {hsc : (hv h' : Memref sig (Dev.tc t : Thread nD τ).2.kind .vmem S2x256x512 .bf16).view.ref.isScScratch = false}
    {hsrc : (hv h).view.WordExact} {hdst : (hv h').view.WordExact}
    {hsem : DmaTarget.Typed .vmem (.dma (rcvS j)) (.remote (Dev.tc t : Thread nD τ) (hv h') (.dma (sndS j)) hsc)}
    {α : Type} {Q : α → sProp 𝕄} {k : PUnit → Prog (TpuEff nD τ sig (Elt F) Λ₀ .tc) α} :
    iprop(StS m K c S)
      ⊢ iprop((StS m K c (S.send c j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hv h) (.remote (Dev.tc t : Thread nD τ) (hv h') (.dma (sndS j)) hsc) (.dma (rcvS j)) hsrc hdst hsem) k) Q) := by
  obtain ⟨hU, hF, hA⟩ := ho
  subst ht; subst hh; subst hh'
  unfold StS Sg.send
  dsimp only
  rw [sep_erase _ hU, sep_erase _ hA, sep_insert _ hF]
  unfold toSend pc
  iintro ⟨⟨#HR, #Hl⟩, ⟨%W, HO⟩, ⟨⟨HtS, HtV, HaS, %fd, Hd⟩, HU⟩, HF, HP, ⟨Hs, HA⟩, HZ⟩ Hk
  ihave #HI1 := (inv_at m K (c, .inr (.inl j))) $$ HR
  ihave #HI2 := (inv_at m K (tgt (chain j) c, .inr (.inr j))) $$ HR
  ihave #HR1 := (reached_at m K (c, .inr (.inl j))) $$ HR
  ihave #HR2 := (reached_at m K (tgt (chain j) c, .inr (.inr j))) $$ HR
  ihave Hs' := (Entails.of_eq (show half c (srcP j c).1 (shr (srcP j c).2) (full m c) = _ from half_view c (srcH j c) _ (full m c))) $$ Hs
  ihave Hd' := (Entails.of_eq (half_view (tgt (chain j) c) (lndH j (tgt (chain j) c)) fullShare fd)) $$ Hd
  iapply (wp_copy m K c j S.U hU fd W) $$ [Hs' Hd' HO HtS HtV]
  · isplitr; · iexact HI1
    isplitr; · iexact HI2
    isplitl [Hs']; · iexact Hs'
    isplitl [Hd']; · iexact Hd'
    isplitl [HO]; · iexact HO
    isplitl [HtS]; · iexact HtS
    isplitr; · iexact HR1
    isplitl [HtV]; · iexact HtV
    iexact HR2
  iintro ⟨HcS, HO⟩
  iapply Hk
  isplitr
  · isplitr; · iexact HR
    iexact Hl
  isplitl [HO]; · (iexists W; iexact HO)
  isplitl [HU]; · iexact HU
  isplitl [HF HcS HaS]
  · isplitl [HcS HaS]
    · unfold inFl
      isplitl [HaS]; · iexact HaS
      iexact HcS
    iexact HF
  isplitl [HP]; · iexact HP
  isplitl [HA]; · iexact HA
  iexact HZ

set_option maxHeartbeats 800000 in
/-- Wait for copy `j`'s send: the piece it read comes back. -/
theorem sw_rule (c : Dev nD) (S : Sg) (j : Fin 14) (ho : ok c S (.sw j)) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (sndS j)) N K)
    {α : Type} {Q : α → sProp 𝕄} {k : PUnit → Prog (TpuEff nD τ sig (Elt F) Λ₀ .tc) α} :
    iprop(StS m K c S)
      ⊢ iprop((StS m K c (S.sndDone c j) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  obtain ⟨hF, hZ, hA, hU⟩ := ho
  unfold StS Sg.sndDone
  dsimp only
  rw [sep_erase _ hF, sep_insert _ hA, sep_insert _ hZ]
  unfold inFl
  iintro ⟨⟨#HR, #Hl⟩, ⟨%W, HO⟩, HU, ⟨⟨HaS, HcS⟩, HF⟩, HP, HA, HZs, HZr⟩ Hk
  ihave #HI1 := (inv_at m K (c, .inr (.inl j))) $$ HR
  iapply (Rounds.wp_wait_rest_token 𝒱₀ ER (rd m) (c : Thread nD τ) none (κ := K (c, .inr (.inl j)))
      hw (Set.mem_univ _) () (O := ow c S.U) (W := W) (R := 0) (m := 0) (T := ∅)
      (by rw [Nat.zero_add]; exact (expect_dma m c (.inl j)).symm)) $$ [HcS HO HaS]
  · isplitr; · iexact HI1
    isplitl [HcS]; · iexact HcS
    isplitl [HO]; · iexact HO
    isplitr; · iapply (mayWait c (.inr (.inl j)) S.U hU); iexact Hl
    iexact HaS
  iintro ⟨HO, HaS, -, Hpay⟩
  ihave Hp := (Entails.of_eq (show _ = pc m c (srcP j c) from rest_dma m c (.inl j))) $$ Hpay
  imod (Rounds.cell_close ER (rd m) (Set.mem_univ (K (c, .inr (.inl j)))) (fun h => h) (R := 0 + 1) (duties_later m (sndCell c j))) $$ [HaS] with Hz
  · isplitr; · iexact HI1
    iexact HaS
  iapply Hk
  isplitr
  · isplitr; · iexact HR
    iexact Hl
  isplitl [HO]; · (iexists _; iexact HO)
  isplitl [HU]; · iexact HU
  isplitl [HF]; · iexact HF
  isplitl [HP]; · iexact HP
  isplitl [HA Hp]
  · isplitl [Hp]; · iexact Hp
    iexact HA
  isplitl [HZs Hz]
  · isplitl [Hz]; · iexact Hz
    iexact HZs
  iexact HZr

theorem quarters_pc (c : Dev nD) (h : Fin 16) :
    (half c h fullShare (full m c) : sProp 𝕄)
      = bigSep (Finset.univ.map ⟨fun t : Fin 4 => (h, t), fun _ _ h => (Prod.mk.inj h).2⟩) (pc m c) := by
  rw [bigSep_map, half_quarters]; rfl

set_option maxHeartbeats 800000 in
/-- Wait for copy `j` to arrive: the half it filled, in four pieces. -/
theorem rw_rule (c : Dev nD) (S : Sg) (j : Fin 14) (ho : ok c S (.rw j)) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (rcvS j)) N K)
    {α : Type} {Q : α → sProp 𝕄} {k : PUnit → Prog (TpuEff nD τ sig (Elt F) Λ₀ .tc) α} :
    iprop(StS m K c S)
      ⊢ iprop((StS m K c (S.rcvDone c j) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  obtain ⟨hP, hZ, hA, hU⟩ := ho
  unfold StS Sg.rcvDone
  dsimp only
  rw [sep_erase _ hP, sep_union _ (by
    rw [Finset.disjoint_right]
    intro x hx
    obtain ⟨t, -, rfl⟩ := Finset.mem_map.mp hx
    exact hA t), sep_insert _ hZ, ← quarters_pc]
  unfold pend
  iintro ⟨⟨#HR, #Hl⟩, ⟨%W, HO⟩, HU, HF, ⟨⟨HaS, HcS⟩, HP⟩, HA, HZs, HZr⟩ Hk
  ihave #HI1 := (inv_at m K (c, .inr (.inr j))) $$ HR
  iapply (Rounds.wp_wait_rest_token 𝒱₀ ER (rd m) (c : Thread nD τ) none (κ := K (c, .inr (.inr j)))
      hw (Set.mem_univ _) () (O := ow c S.U) (W := W) (R := 0) (m := 0) (T := ∅)
      (by rw [Nat.zero_add]; exact (expect_dma m c (.inr j)).symm)) $$ [HcS HO HaS]
  · isplitr; · iexact HI1
    isplitl [HcS]; · iexact HcS
    isplitl [HO]; · iexact HO
    isplitr; · iapply (mayWait c (.inr (.inr j)) S.U hU); iexact Hl
    iexact HaS
  iintro ⟨HO, HaS, -, Hpay⟩
  ihave Hp := (Entails.of_eq (show _ = half c (lndH j c) fullShare (full m c) from rest_dma m c (.inr j))) $$ Hpay
  imod (Rounds.cell_close ER (rd m) (Set.mem_univ (K (c, .inr (.inr j)))) (fun h => h) (R := 0 + 1) (duties_later m (rcvCell c j))) $$ [HaS] with Hz
  · isplitr; · iexact HI1
    iexact HaS
  iapply Hk
  isplitr
  · isplitr; · iexact HR
    iexact Hl
  isplitl [HO]; · (iexists _; iexact HO)
  isplitl [HU]; · iexact HU
  isplitl [HF]; · iexact HF
  isplitl [HP]; · iexact HP
  isplitl [HA Hp]
  · isplitl [HA]; · iexact HA
    iexact Hp
  isplitl [HZs]; · iexact HZs
  isplitl [Hz]; · iexact Hz
  iexact HZr

/-- Load from a half that is there. -/
theorem load_rule (c : Dev nD) (S : Sg) (h : Fin 16) (hA : (h, 3) ∈ S.A) (r : LoadRect S8x4x256x512) (hr : r.set ⊆ (hR h).set)
    {hl : (sM.view.LoadsAt r)} {α : Type} {Q : α → sProp 𝕄} {k : (r.shape.Idx → Elt F .bf16) → Prog (TpuEff nD τ sig (Elt F) Λ₀ .tc) α} :
    iprop(StS m K c S)
      ⊢ iprop((StS m K c S -∗ wp frame (wpE (defs₀ (F := F)) 𝒱₀ (c : Thread nD τ) none) Set.univ (k (sM.view.readAt (Elt F) r (full m c))) Q)
          -∗ wp frame (wpE (defs₀ (F := F)) 𝒱₀ (c : Thread nD τ) none) Set.univ (.op (.load sM r hl) k) Q) := by
  unfold StS
  rw [sep_erase _ hA]
  unfold pc half
  iintro ⟨HR, HO, HU, HF, HP, ⟨Hp, HA⟩, HZ⟩ Hk
  iapply (wp_load 𝒱₀ (c : Thread nD τ) none Set.univ (m := sM) (S := (hR h).set)
    (by intro x hx; obtain ⟨y, hy, rfl⟩ := Finset.mem_map.mp hx; exact hr hy)) $$ Hp
  iintro Hp
  iapply Hk
  isplitl [HR]; · iexact HR
  isplitl [HO]; · iexact HO
  isplitl [HU]; · iexact HU
  isplitl [HF]; · iexact HF
  isplitl [HP]; · iexact HP
  isplitl [Hp HA]
  · isplitl [Hp]; · iexact Hp
    iexact HA
  iexact HZ

/-! ## The same, operation by operation -/

theorem step_send {α : Type} {Q : α → sProp 𝕄} {k : PUnit → Prog (TpuEff nD τ sig (Elt F) Λ₀ .tc) α} (c t : Dev nD) (n : ℕ) (j : Fin 14) (hE : evs[n]? = some (.send j)) (h h' : Fin 16) (ht : t = tgt (chain j) c)
    (hh : h = srcH j c) (hh' : h' = lndH j (tgt (chain j) c))
    {hsc : (hv h' : Memref sig (Dev.tc t : Thread nD τ).2.kind .vmem S2x256x512 .bf16).view.ref.isScScratch = false}
    {hsrc : (hv h).view.WordExact} {hdst : (hv h').view.WordExact}
    {hsem : DmaTarget.Typed .vmem (.dma (rcvS j)) (.remote (Dev.tc t : Thread nD τ) (hv h') (.dma (sndS j)) hsc)} :
    iprop(St m K c n)
      ⊢ iprop((St m K c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hv h) (.remote (Dev.tc t : Thread nD τ) (hv h') (.dma (sndS j)) hsc) (.dma (rcvS j)) hsrc hdst hsem) k) Q) := by
  rw [show St m K c (n + 1) = StS m K c ((sg c n).send c j) by unfold St; rw [sg_succ c n _ hE]; rfl]
  exact send_rule m K c t (sg c n) j h h' ht hh (by rw [hh', ht]) (ok_at c n _ hE)

theorem step_sendIf {α : Type} {Q : α → sProp 𝕄} {k : PUnit → Prog (TpuEff nD τ sig (Elt F) Λ₀ .tc) α} (c t : Dev nD) (n : ℕ) (j : Fin 14) (b : Bool) (hE : evs[n]? = some (.sendIf b j)) (hb : evn c = b)
    (h h' : Fin 16) (ht : t = tgt (chain j) c) (hh : h = srcH j c) (hh' : h' = lndH j (tgt (chain j) c))
    {hsc : (hv h' : Memref sig (Dev.tc t : Thread nD τ).2.kind .vmem S2x256x512 .bf16).view.ref.isScScratch = false}
    {hsrc : (hv h).view.WordExact} {hdst : (hv h').view.WordExact}
    {hsem : DmaTarget.Typed .vmem (.dma (rcvS j)) (.remote (Dev.tc t : Thread nD τ) (hv h') (.dma (sndS j)) hsc)} :
    iprop(St m K c n)
      ⊢ iprop((St m K c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hv h) (.remote (Dev.tc t : Thread nD τ) (hv h') (.dma (sndS j)) hsc) (.dma (rcvS j)) hsrc hdst hsem) k) Q) := by
  rw [show St m K c (n + 1) = StS m K c ((sg c n).send c j) by unfold St; rw [sg_succ c n _ hE]; exact congrArg (StS m K c) (if_pos hb)]
  exact send_rule m K c t (sg c n) j h h' ht hh (by rw [hh', ht]) (ok_at c n _ hE hb)

/-- On a device of the other parity the conditional issue is no operation. -/
theorem step_skip (c : Dev nD) (n : ℕ) (j : Fin 14) (b : Bool) (hE : evs[n]? = some (.sendIf b j)) (hb : ¬evn c = b) {X : sProp 𝕄} :
    St m K c n ⊢ iprop((St m K c (n + 1) -∗ X) -∗ X) := by
  rw [show St m K c (n + 1) = St m K c n by unfold St; rw [sg_succ c n _ hE]; exact congrArg (StS m K c) (if_neg hb)]
  iintro HS Hk
  iapply Hk
  iexact HS

theorem step_sw {α : Type} {Q : α → sProp 𝕄} {k : PUnit → Prog (TpuEff nD τ sig (Elt F) Λ₀ .tc) α} (c : Dev nD) (n : ℕ) (j : Fin 14) (hE : evs[n]? = some (.sw j)) (h h' : Fin 16)
    {hsrc : (hv h).view.WordExact} {hdst : (hv h').view.WordExact} :
    iprop(St m K c n)
      ⊢ iprop((St m K c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS j) (hv h) (hv h') hsrc hdst) k) Q) := by
  rw [show St m K c (n + 1) = StS m K c ((sg c n).sndDone c j) by unfold St; rw [sg_succ c n _ hE]; rfl]
  exact sw_rule m K c (sg c n) j (ok_at c n _ hE) (wpE_waitDma2_eq 𝒱₀ (c : Thread nD τ) none Set.univ (src := hv h) (dst := hv h') (hsrc := hsrc) (hdst := hdst))

theorem step_rw {α : Type} {Q : α → sProp 𝕄} {k : PUnit → Prog (TpuEff nD τ sig (Elt F) Λ₀ .tc) α} (c : Dev nD) (n : ℕ) (j : Fin 14) (hE : evs[n]? = some (.rw j)) (h h' : Fin 16)
    {hsrc : (hv h).view.WordExact} {hdst : (hv h').view.WordExact} :
    iprop(St m K c n)
      ⊢ iprop((St m K c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS j) (hv h) (hv h') hsrc hdst) k) Q) := by
  rw [show St m K c (n + 1) = StS m K c ((sg c n).rcvDone c j) by unfold St; rw [sg_succ c n _ hE]; rfl]
  exact rw_rule m K c (sg c n) j (ok_at c n _ hE) (wpE_waitDma2_eq 𝒱₀ (c : Thread nD τ) none Set.univ (src := hv h) (dst := hv h') (hsrc := hsrc) (hdst := hdst))

/-- A rectangle within a half. -/
theorem unit_sub (h : Fin 16) (off size : Fin 4 → ℕ) (inb : ∀ a, off a + size a ≤ S8x4x256x512.size a)
    (H : (slotOf h).val ≤ off 0 ∧ off 0 + size 0 ≤ (slotOf h).val + 1 ∧ rowOf h ≤ off 1 ∧ off 1 + size 1 ≤ rowOf h + 2) :
    (Rect.unit (s := S8x4x256x512) off size inb).toLoadRect.set ⊆ (hR h).set := by
  intro i hi
  have hi' : i ∈ (Rect.unit (s := S8x4x256x512) off size inb).set := hi
  rw [Rect.mem_set_unit] at hi'
  have h0 := hi' 0
  have h1 := hi' 1
  rw [mem_hv]
  omega

theorem step_load {α : Type} {Q : α → sProp 𝕄} (c : Dev nD) (n : ℕ) (h : Fin 16) (hA : (h, 3) ∈ (sg c n).A) (r : LoadRect S8x4x256x512)
    (hr : r.set ⊆ (hR h).set) {hl : (sM.view.LoadsAt r)} {k : (r.shape.Idx → Elt F .bf16) → Prog (TpuEff nD τ sig (Elt F) Λ₀ .tc) α} :
    iprop(St m K c n)
      ⊢ iprop((St m K c n -∗ wp frame (wpE (defs₀ (F := F)) 𝒱₀ (c : Thread nD τ) none) Set.univ (k (sM.view.readAt (Elt F) r (full m c))) Q)
          -∗ wp frame (wpE (defs₀ (F := F)) 𝒱₀ (c : Thread nD τ) none) Set.univ (.op (.load sM r hl) k) Q) :=
  load_rule m K c (sg c n) h hA r hr

/-! ## What a part of the body returns -/

instance (φ : FTy) : Inhabited (F φ) := ⟨FloatOps.ofBits φ 0⟩

/-- What the device's buffers hold when they are read: the scratch buffer what it is to hold, the staged blocks the inputs. -/
def held (c : Dev nD) (b : Ref sig .tc) : Option (b.ty.Contents (Elt F)) :=
  if h : b = cc0_scratch0 then some (h ▸ full m c)
  else if h : b = cc0_stg0_0 then some (h ▸ (iblk m c 0 t0_0 : cc0_stg0_0.ty.Contents (Elt F)))
  else if h : b = cc0_stg1_0 then some (h ▸ (iblk m c 1 t0_0 : cc0_stg1_0.ty.Contents (Elt F)))
  else if h : b = cc0_stg2_0 then some (h ▸ (iblk m c 2 t0_0 : cc0_stg2_0.ty.Contents (Elt F)))
  else if h : b = cc0_stg3_0 then some (h ▸ (iblk m c 3 t0_0 : cc0_stg3_0.ty.Contents (Elt F)))
  else none

/-- What an operation answers. -/
def ans (c : Dev nD) {β : Type} : TpuEff nD τ sig (Elt F) Λ₀ .tc β → Option β
  | .load M r _ => (held m c M.view.ref).map fun f => M.view.readAt (Elt F) r f
  | .deviceId => some c
  | .store .. => some ⟨⟩
  | .semSignal .. => some ⟨⟩
  | .semWait .. => some ⟨⟩
  | .enqueueDmaAs .. => some ⟨⟩
  | .waitDma .. => some ⟨⟩
  | _ => none

/-- What a program returns, if it is made of these operations alone. -/
def ev? (c : Dev nD) {α : Type} : Prog (TpuEff nD τ sig (Elt F) Λ₀ .tc) α → Option α
  | .ret a => some a
  | .op e k => match ans m c e with
    | some x => ev? c (k x)
    | none => none

/-- What a program returns. -/
def ev (c : Dev nD) {α : Type} [Inhabited α] (p : Prog (TpuEff nD τ sig (Elt F) Λ₀ .tc) α) : α := (ev? m c p).getD default

theorem at_eq {α : Type} (Q : α → sProp 𝕄) {a b : α} (h : a = b) : Q a ⊢ Q b := Entails.of_eq (congrArg Q h)

end Cert.MoeProof

end
-- ==== Proof.Parts.lean ====
/-
# The parts of one device's body

The body is printed in thirty-seven parts. Here is what each returns, and that from the state before its operations
it runs to the state after them.
-/
module

public import proofs.«01_k».proof.Proof.Rules

@[expose] public section

set_option maxRecDepth 65536

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance : Inhabited (Sems sig S_) := ⟨SemArray.scalar (sig.barrier 0 rfl)⟩

/-- Part 1 of the body, on the device's own buffers. -/
abbrev q1 : Prog (TpuEff nD τ sig (Elt F) Λ₀ .tc) (Σ' (d0 : Dev nD) (v5 : BitVec 32) (v19 : BitVec 32), BitVec 32) :=
  k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6

/-- Part 2 of the body, on the device's own buffers. -/
abbrev q2 (d0 : Dev nD) (v5 : BitVec 32) (v19 : BitVec 32) (v33 : BitVec 32) : Prog (TpuEff nD τ sig (Elt F) Λ₀ .tc) (Σ' (v44 : BitVec 1) (v59 : BitVec 32) (v60 : Sems sig S_), BitVec 32) :=
  k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v19 v33

/-- Part 3 of the body, on the device's own buffers. -/
abbrev q3 (d0 : Dev nD) (v19 : BitVec 32) (v60 : Sems sig S_) (v65 : BitVec 32) : Prog (TpuEff nD τ sig (Elt F) Λ₀ .tc) (PUnit) :=
  k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v19 v60 v65

/-- Part 4 of the body, on the device's own buffers. -/
abbrev q4 (d0 : Dev nD) (v33 : BitVec 32) (v44 : BitVec 1) (v59 : BitVec 32) : Prog (TpuEff nD τ sig (Elt F) Λ₀ .tc) (PUnit) :=
  k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v33 v44 v59

/-- Part 5 of the body, on the device's own buffers. -/
abbrev q5 (d0 : Dev nD) (v5 : BitVec 32) (v59 : BitVec 32) : Prog (TpuEff nD τ sig (Elt F) Λ₀ .tc) (Σ' (v118 : FVec F S1024x256 .bf16) (v131 : IVec S1024x32 32) (v146 : FVec F S1024x32 .f32) (v149 : BitVec 32) (v150 : BitVec 32), BitVec 1) :=
  k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v59

/-- Part 6 of the body, on the device's own buffers. -/
abbrev q6 (v118 : FVec F S1024x256 .bf16) (v131 : IVec S1024x32 32) (v146 : FVec F S1024x32 .f32) (v149 : BitVec 32) (v150 : BitVec 32) (v155 : BitVec 1) : Prog (TpuEff nD τ sig (Elt F) Λ₀ .tc) (FVec F S1024x512 .f32) :=
  k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v149 v150 v155

/-- Part 7 of the body, on the device's own buffers. -/
abbrev q7 (v5 : BitVec 32) (v118 : FVec F S1024x256 .bf16) (v131 : IVec S1024x32 32) (v146 : FVec F S1024x32 .f32) : Prog (TpuEff nD τ sig (Elt F) Λ₀ .tc) (Σ' (v212 : FVec F S512x512 .bf16) (v225 : FVec F S1024x256 .bf16) (v227 : BitVec 32), BitVec 32) :=
  k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146

/-- Part 8 of the body, on the device's own buffers. -/
abbrev q8 (v19 : BitVec 32) (v118 : FVec F S1024x256 .bf16) (v131 : IVec S1024x32 32) (v146 : FVec F S1024x32 .f32) (v193 : FVec F S1024x512 .f32) (v212 : FVec F S512x512 .bf16) (v225 : FVec F S1024x256 .bf16) (v227 : BitVec 32) (c1_i32_165 : BitVec 32) : Prog (TpuEff nD τ sig (Elt F) Λ₀ .tc) (FVec F S1024x512 .f32) :=
  k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v118 v131 v146 v193 v212 v225 v227 c1_i32_165

/-- Part 9 of the body, on the device's own buffers. -/
abbrev q9 (d0 : Dev nD) (v5 : BitVec 32) (v19 : BitVec 32) (v44 : BitVec 1) (v59 : BitVec 32) : Prog (TpuEff nD τ sig (Elt F) Λ₀ .tc) (Σ' (v281 : BitVec 32), FVec F S512x512 .bf16) :=
  k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v19 v44 v59

/-- Part 10 of the body, on the device's own buffers. -/
abbrev q10 (v118 : FVec F S1024x256 .bf16) (v131 : IVec S1024x32 32) (v146 : FVec F S1024x32 .f32) (v241 : FVec F S1024x512 .f32) (v281 : BitVec 32) (v286 : FVec F S512x512 .bf16) : Prog (TpuEff nD τ sig (Elt F) Λ₀ .tc) (FVec F S1024x512 .f32) :=
  k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v241 v281 v286

/-- Part 11 of the body, on the device's own buffers. -/
abbrev q11 (d0 : Dev nD) (v5 : BitVec 32) (v33 : BitVec 32) (v44 : BitVec 1) (v59 : BitVec 32) : Prog (TpuEff nD τ sig (Elt F) Λ₀ .tc) (Σ' (v345 : BitVec 32) (v346 : BitVec 32) (v347 : BitVec 1), BitVec 1) :=
  k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v33 v44 v59

/-- Part 12 of the body, on the device's own buffers. -/
abbrev q12 (v118 : FVec F S1024x256 .bf16) (v131 : IVec S1024x32 32) (v146 : FVec F S1024x32 .f32) (v345 : BitVec 32) (v346 : BitVec 32) (v347 : BitVec 1) (v348 : BitVec 1) : Prog (TpuEff nD τ sig (Elt F) Λ₀ .tc) (Σ' (v361 : FVec F S512x512 .bf16) (v374 : FVec F S1024x256 .bf16), FVec F S1024x256 .f32) :=
  k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v345 v346 v347 v348

/-- Part 13 of the body, on the device's own buffers. -/
abbrev q13 (v19 : BitVec 32) (v315 : FVec F S1024x512 .f32) (v361 : FVec F S512x512 .bf16) (v374 : FVec F S1024x256 .bf16) (v386 : FVec F S1024x256 .f32) : Prog (TpuEff nD τ sig (Elt F) Λ₀ .tc) (FVec F S1024x512 .f32) :=
  k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v315 v361 v374 v386

/-- Part 14 of the body, on the device's own buffers. -/
abbrev q14 (d0 : Dev nD) (v5 : BitVec 32) (v44 : BitVec 1) (v59 : BitVec 32) (v131 : IVec S1024x32 32) (v146 : FVec F S1024x32 .f32) : Prog (TpuEff nD τ sig (Elt F) Λ₀ .tc) (Σ' (v430 : BitVec 32) (v435 : FVec F S512x512 .bf16), FVec F S1024x32 .f32) :=
  k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v44 v59 v131 v146

/-- Part 15 of the body, on the device's own buffers. -/
abbrev q15 (v33 : BitVec 32) (v118 : FVec F S1024x256 .bf16) (v131 : IVec S1024x32 32) (v146 : FVec F S1024x32 .f32) (v390 : FVec F S1024x512 .f32) (v430 : BitVec 32) (v435 : FVec F S512x512 .bf16) (v442 : FVec F S1024x32 .f32) : Prog (TpuEff nD τ sig (Elt F) Λ₀ .tc) (FVec F S1024x512 .f32) :=
  k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v33 v118 v131 v146 v390 v430 v435 v442

/-- Part 16 of the body, on the device's own buffers. -/
abbrev q16 (d0 : Dev nD) (v5 : BitVec 32) (v33 : BitVec 32) (v44 : BitVec 1) (v59 : BitVec 32) : Prog (TpuEff nD τ sig (Elt F) Λ₀ .tc) (BitVec 32) :=
  k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v33 v44 v59

/-- Part 17 of the body, on the device's own buffers. -/
abbrev q17 (v118 : FVec F S1024x256 .bf16) (v131 : IVec S1024x32 32) (v146 : FVec F S1024x32 .f32) (v464 : FVec F S1024x512 .f32) (v505 : BitVec 32) : Prog (TpuEff nD τ sig (Elt F) Λ₀ .tc) (FVec F S1024x512 .f32) :=
  k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v464 v505

/-- Part 18 of the body, on the device's own buffers. -/
abbrev q18 (v5 : BitVec 32) (v44 : BitVec 1) (v59 : BitVec 32) : Prog (TpuEff nD τ sig (Elt F) Λ₀ .tc) (BitVec 32) :=
  k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v44 v59

/-- Part 19 of the body, on the device's own buffers. -/
abbrev q19 (d0 : Dev nD) (v118 : FVec F S1024x256 .bf16) (v131 : IVec S1024x32 32) (v146 : FVec F S1024x32 .f32) (v539 : FVec F S1024x512 .f32) (v568 : BitVec 32) : Prog (TpuEff nD τ sig (Elt F) Λ₀ .tc) (FVec F S1024x512 .f32) :=
  k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v118 v131 v146 v539 v568

/-- Part 20 of the body, on the device's own buffers. -/
abbrev q20 (d0 : Dev nD) (v5 : BitVec 32) (v33 : BitVec 32) (v44 : BitVec 1) (v59 : BitVec 32) : Prog (TpuEff nD τ sig (Elt F) Λ₀ .tc) (Σ' (v630 : BitVec 32), FVec F S256x512 .bf16) :=
  k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v33 v44 v59

/-- Part 21 of the body, on the device's own buffers. -/
abbrev q21 (v118 : FVec F S1024x256 .bf16) (v131 : IVec S1024x32 32) (v146 : FVec F S1024x32 .f32) (v600 : FVec F S1024x512 .f32) (v630 : BitVec 32) (v632 : FVec F S256x512 .bf16) : Prog (TpuEff nD τ sig (Elt F) Λ₀ .tc) (FVec F S1024x512 .f32) :=
  k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v600 v630 v632

/-- Part 22 of the body, on the device's own buffers. -/
abbrev q22 (d0 : Dev nD) (v5 : BitVec 32) (v19 : BitVec 32) (v44 : BitVec 1) (v59 : BitVec 32) : Prog (TpuEff nD τ sig (Elt F) Λ₀ .tc) (Σ' (v695 : BitVec 32), FVec F S256x512 .bf16) :=
  k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v19 v44 v59

/-- Part 23 of the body, on the device's own buffers. -/
abbrev q23 (v118 : FVec F S1024x256 .bf16) (v131 : IVec S1024x32 32) (v146 : FVec F S1024x32 .f32) (v664 : FVec F S1024x512 .f32) (v695 : BitVec 32) (v697 : FVec F S256x512 .bf16) : Prog (TpuEff nD τ sig (Elt F) Λ₀ .tc) (FVec F S1024x512 .f32) :=
  k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v664 v695 v697

/-- Part 24 of the body, on the device's own buffers. -/
abbrev q24 (d0 : Dev nD) (v5 : BitVec 32) (v19 : BitVec 32) (v33 : BitVec 32) : Prog (TpuEff nD τ sig (Elt F) Λ₀ .tc) (Σ' (v756 : BitVec 32) (v757 : BitVec 32) (v758 : BitVec 1), BitVec 1) :=
  k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v19 v33

/-- Part 25 of the body, on the device's own buffers. -/
abbrev q25 (v118 : FVec F S1024x256 .bf16) (v131 : IVec S1024x32 32) (v146 : FVec F S1024x32 .f32) (v756 : BitVec 32) (v757 : BitVec 32) (v758 : BitVec 1) (v759 : BitVec 1) : Prog (TpuEff nD τ sig (Elt F) Λ₀ .tc) (Σ' (v772 : FVec F S512x512 .bf16) (v785 : FVec F S1024x256 .bf16), FVec F S1024x256 .f32) :=
  k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v756 v757 v758 v759

/-- Part 26 of the body, on the device's own buffers. -/
abbrev q26 (v19 : BitVec 32) (v33 : BitVec 32) (v729 : FVec F S1024x512 .f32) (v772 : FVec F S512x512 .bf16) (v785 : FVec F S1024x256 .bf16) (v797 : FVec F S1024x256 .f32) : Prog (TpuEff nD τ sig (Elt F) Λ₀ .tc) (FVec F S1024x512 .f32) :=
  k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v33 v729 v772 v785 v797

/-- Part 27 of the body, on the device's own buffers. -/
abbrev q27 (d0 : Dev nD) (v5 : BitVec 32) (v118 : FVec F S1024x256 .bf16) (v131 : IVec S1024x32 32) (v146 : FVec F S1024x32 .f32) : Prog (TpuEff nD τ sig (Elt F) Λ₀ .tc) (Σ' (v839 : BitVec 32) (v844 : FVec F S512x512 .bf16) (v854 : FVec F S1024x256 .f32), FVec F S1024x256 .f32) :=
  k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v5 v118 v131 v146

/-- Part 28 of the body, on the device's own buffers. -/
abbrev q28 (v59 : BitVec 32) (v118 : FVec F S1024x256 .bf16) (v131 : IVec S1024x32 32) (v146 : FVec F S1024x32 .f32) (v801 : FVec F S1024x512 .f32) (v839 : BitVec 32) (v844 : FVec F S512x512 .bf16) (v854 : FVec F S1024x256 .f32) (v855 : FVec F S1024x256 .f32) : Prog (TpuEff nD τ sig (Elt F) Λ₀ .tc) (FVec F S1024x512 .f32) :=
  k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v59 v118 v131 v146 v801 v839 v844 v854 v855

/-- Part 29 of the body, on the device's own buffers. -/
abbrev q29 (v5 : BitVec 32) (v118 : FVec F S1024x256 .bf16) (v131 : IVec S1024x32 32) (v146 : FVec F S1024x32 .f32) : Prog (TpuEff nD τ sig (Elt F) Λ₀ .tc) (Σ' (v906 : FVec F S512x512 .bf16) (v919 : FVec F S1024x256 .bf16), BitVec 32) :=
  k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146

/-- Part 30 of the body, on the device's own buffers. -/
abbrev q30 (v59 : BitVec 32) (v118 : FVec F S1024x256 .bf16) (v131 : IVec S1024x32 32) (v146 : FVec F S1024x32 .f32) (v873 : FVec F S1024x512 .f32) (v906 : FVec F S512x512 .bf16) (v919 : FVec F S1024x256 .bf16) (v920 : BitVec 32) : Prog (TpuEff nD τ sig (Elt F) Λ₀ .tc) (Σ' (v935 : FVec F S1024x512 .f32), BitVec 32) :=
  k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v59 v118 v131 v146 v873 v906 v919 v920

/-- Part 31 of the body, on the device's own buffers. -/
abbrev q31 (v5 : BitVec 32) (v118 : FVec F S1024x256 .bf16) (v131 : IVec S1024x32 32) (v146 : FVec F S1024x32 .f32) (c4_i32_785 : BitVec 32) : Prog (TpuEff nD τ sig (Elt F) Λ₀ .tc) (Σ' (v968 : FVec F S512x512 .bf16) (v981 : FVec F S1024x256 .bf16), BitVec 32) :=
  k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146 c4_i32_785

/-- Part 32 of the body, on the device's own buffers. -/
abbrev q32 (v5 : BitVec 32) (v19 : BitVec 32) (v118 : FVec F S1024x256 .bf16) (v131 : IVec S1024x32 32) (v146 : FVec F S1024x32 .f32) (v935 : FVec F S1024x512 .f32) (v968 : FVec F S512x512 .bf16) (v981 : FVec F S1024x256 .bf16) (v984 : BitVec 32) : Prog (TpuEff nD τ sig (Elt F) Λ₀ .tc) (Σ' (v997 : FVec F S1024x512 .f32) (v1012 : BitVec 32) (c8_i32_838 : BitVec 32), BitVec 1) :=
  k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v19 v118 v131 v146 v935 v968 v981 v984

/-- Part 33 of the body, on the device's own buffers. -/
abbrev q33 (v118 : FVec F S1024x256 .bf16) (v131 : IVec S1024x32 32) (v146 : FVec F S1024x32 .f32) (v1012 : BitVec 32) (c8_i32_838 : BitVec 32) (v1013 : BitVec 1) : Prog (TpuEff nD τ sig (Elt F) Λ₀ .tc) (Σ' (v1030 : FVec F S512x512 .bf16) (v1043 : FVec F S1024x256 .bf16) (v1048 : IVec S1024x32 1), FVec F S1024x32 .f32) :=
  k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v1012 c8_i32_838 v1013

/-- Part 34 of the body, on the device's own buffers. -/
abbrev q34 (v5 : BitVec 32) (v33 : BitVec 32) (v118 : FVec F S1024x256 .bf16) (v146 : FVec F S1024x32 .f32) (v997 : FVec F S1024x512 .f32) (v1030 : FVec F S512x512 .bf16) (v1043 : FVec F S1024x256 .bf16) (v1048 : IVec S1024x32 1) (v1049 : FVec F S1024x32 .f32) : Prog (TpuEff nD τ sig (Elt F) Λ₀ .tc) (Σ' (v1059 : FVec F S1024x512 .f32) (v1076 : BitVec 32) (v1077 : BitVec 32), BitVec 32) :=
  k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v33 v118 v146 v997 v1030 v1043 v1048 v1049

/-- Part 35 of the body, on the device's own buffers. -/
abbrev q35 (v118 : FVec F S1024x256 .bf16) (v131 : IVec S1024x32 32) (v146 : FVec F S1024x32 .f32) (v1076 : BitVec 32) (v1077 : BitVec 32) (c0_i32_893 : BitVec 32) : Prog (TpuEff nD τ sig (Elt F) Λ₀ .tc) (Σ' (v1092 : FVec F S512x512 .bf16) (v1105 : FVec F S1024x256 .bf16), FVec F S1024x1 .f32) :=
  k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v1076 v1077 c0_i32_893

/-- Part 36 of the body, on the device's own buffers. -/
abbrev q36 (v5 : BitVec 32) (v44 : BitVec 1) (v59 : BitVec 32) (v118 : FVec F S1024x256 .bf16) (v1059 : FVec F S1024x512 .f32) (v1092 : FVec F S512x512 .bf16) (v1105 : FVec F S1024x256 .bf16) (v1114 : FVec F S1024x1 .f32) : Prog (TpuEff nD τ sig (Elt F) Λ₀ .tc) (Σ' (v1121 : FVec F S1024x512 .f32) (v1136 : BitVec 32) (v1139 : BitVec 32) (v1140 : BitVec 32) (v1141 : BitVec 1), BitVec 32) :=
  k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v44 v59 v118 v1059 v1092 v1105 v1114

/-- Part 37 of the body, on the device's own buffers. -/
abbrev q37 (d0 : Dev nD) (v118 : FVec F S1024x256 .bf16) (v131 : IVec S1024x32 32) (v146 : FVec F S1024x32 .f32) (v1121 : FVec F S1024x512 .f32) (v1136 : BitVec 32) (v1139 : BitVec 32) (v1140 : BitVec 32) (v1141 : BitVec 1) (c0_i32_946 : BitVec 32) : Prog (TpuEff nD τ sig (Elt F) Λ₀ .tc) (FVec F S1024x512 .f32) :=
  k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 d0 v118 v131 v146 v1121 v1136 v1139 v1140 v1141 c0_i32_946

/-- What part 1 returns. -/
def r1 (c : Dev nD) : Σ' (d0 : Dev nD) (v5 : BitVec 32) (v19 : BitVec 32), BitVec 32 := ev m c (q1 )

/-- What part 2 returns. -/
def r2 (c : Dev nD) : Σ' (v44 : BitVec 1) (v59 : BitVec 32) (v60 : Sems sig S_), BitVec 32 := ev m c (q2 c (r1 m c).2.1 (r1 m c).2.2.1 (r1 m c).2.2.2)

/-- What part 5 returns. -/
def r5 (c : Dev nD) : Σ' (v118 : FVec F S1024x256 .bf16) (v131 : IVec S1024x32 32) (v146 : FVec F S1024x32 .f32) (v149 : BitVec 32) (v150 : BitVec 32), BitVec 1 := ev m c (q5 c (r1 m c).2.1 (r2 m c).2.1)

/-- What part 6 returns. -/
def r6 (c : Dev nD) : FVec F S1024x512 .f32 := ev m c (q6 (r5 m c).1 (r5 m c).2.1 (r5 m c).2.2.1 (r5 m c).2.2.2.1 (r5 m c).2.2.2.2.1 (r5 m c).2.2.2.2.2)

/-- What part 7 returns. -/
def r7 (c : Dev nD) : Σ' (v212 : FVec F S512x512 .bf16) (v225 : FVec F S1024x256 .bf16) (v227 : BitVec 32), BitVec 32 := ev m c (q7 (r1 m c).2.1 (r5 m c).1 (r5 m c).2.1 (r5 m c).2.2.1)

/-- What part 8 returns. -/
def r8 (c : Dev nD) : FVec F S1024x512 .f32 := ev m c (q8 (r1 m c).2.2.1 (r5 m c).1 (r5 m c).2.1 (r5 m c).2.2.1 (r6 m c) (r7 m c).1 (r7 m c).2.1 (r7 m c).2.2.1 (r7 m c).2.2.2)

/-- What part 9 returns. -/
def r9 (c : Dev nD) : Σ' (v281 : BitVec 32), FVec F S512x512 .bf16 := ev m c (q9 c (r1 m c).2.1 (r1 m c).2.2.1 (r2 m c).1 (r2 m c).2.1)

/-- What part 10 returns. -/
def r10 (c : Dev nD) : FVec F S1024x512 .f32 := ev m c (q10 (r5 m c).1 (r5 m c).2.1 (r5 m c).2.2.1 (r8 m c) (r9 m c).1 (r9 m c).2)

/-- What part 11 returns. -/
def r11 (c : Dev nD) : Σ' (v345 : BitVec 32) (v346 : BitVec 32) (v347 : BitVec 1), BitVec 1 := ev m c (q11 c (r1 m c).2.1 (r1 m c).2.2.2 (r2 m c).1 (r2 m c).2.1)

/-- What part 12 returns. -/
def r12 (c : Dev nD) : Σ' (v361 : FVec F S512x512 .bf16) (v374 : FVec F S1024x256 .bf16), FVec F S1024x256 .f32 := ev m c (q12 (r5 m c).1 (r5 m c).2.1 (r5 m c).2.2.1 (r11 m c).1 (r11 m c).2.1 (r11 m c).2.2.1 (r11 m c).2.2.2)

/-- What part 13 returns. -/
def r13 (c : Dev nD) : FVec F S1024x512 .f32 := ev m c (q13 (r1 m c).2.2.1 (r10 m c) (r12 m c).1 (r12 m c).2.1 (r12 m c).2.2)

/-- What part 14 returns. -/
def r14 (c : Dev nD) : Σ' (v430 : BitVec 32) (v435 : FVec F S512x512 .bf16), FVec F S1024x32 .f32 := ev m c (q14 c (r1 m c).2.1 (r2 m c).1 (r2 m c).2.1 (r5 m c).2.1 (r5 m c).2.2.1)

/-- What part 15 returns. -/
def r15 (c : Dev nD) : FVec F S1024x512 .f32 := ev m c (q15 (r1 m c).2.2.2 (r5 m c).1 (r5 m c).2.1 (r5 m c).2.2.1 (r13 m c) (r14 m c).1 (r14 m c).2.1 (r14 m c).2.2)

/-- What part 16 returns. -/
def r16 (c : Dev nD) : BitVec 32 := ev m c (q16 c (r1 m c).2.1 (r1 m c).2.2.2 (r2 m c).1 (r2 m c).2.1)

/-- What part 17 returns. -/
def r17 (c : Dev nD) : FVec F S1024x512 .f32 := ev m c (q17 (r5 m c).1 (r5 m c).2.1 (r5 m c).2.2.1 (r15 m c) (r16 m c))

/-- What part 18 returns. -/
def r18 (c : Dev nD) : BitVec 32 := ev m c (q18 (r1 m c).2.1 (r2 m c).1 (r2 m c).2.1)

/-- What part 19 returns. -/
def r19 (c : Dev nD) : FVec F S1024x512 .f32 := ev m c (q19 c (r5 m c).1 (r5 m c).2.1 (r5 m c).2.2.1 (r17 m c) (r18 m c))

/-- What part 20 returns. -/
def r20 (c : Dev nD) : Σ' (v630 : BitVec 32), FVec F S256x512 .bf16 := ev m c (q20 c (r1 m c).2.1 (r1 m c).2.2.2 (r2 m c).1 (r2 m c).2.1)

/-- What part 21 returns. -/
def r21 (c : Dev nD) : FVec F S1024x512 .f32 := ev m c (q21 (r5 m c).1 (r5 m c).2.1 (r5 m c).2.2.1 (r19 m c) (r20 m c).1 (r20 m c).2)

/-- What part 22 returns. -/
def r22 (c : Dev nD) : Σ' (v695 : BitVec 32), FVec F S256x512 .bf16 := ev m c (q22 c (r1 m c).2.1 (r1 m c).2.2.1 (r2 m c).1 (r2 m c).2.1)

/-- What part 23 returns. -/
def r23 (c : Dev nD) : FVec F S1024x512 .f32 := ev m c (q23 (r5 m c).1 (r5 m c).2.1 (r5 m c).2.2.1 (r21 m c) (r22 m c).1 (r22 m c).2)

/-- What part 24 returns. -/
def r24 (c : Dev nD) : Σ' (v756 : BitVec 32) (v757 : BitVec 32) (v758 : BitVec 1), BitVec 1 := ev m c (q24 c (r1 m c).2.1 (r1 m c).2.2.1 (r1 m c).2.2.2)

/-- What part 25 returns. -/
def r25 (c : Dev nD) : Σ' (v772 : FVec F S512x512 .bf16) (v785 : FVec F S1024x256 .bf16), FVec F S1024x256 .f32 := ev m c (q25 (r5 m c).1 (r5 m c).2.1 (r5 m c).2.2.1 (r24 m c).1 (r24 m c).2.1 (r24 m c).2.2.1 (r24 m c).2.2.2)

/-- What part 26 returns. -/
def r26 (c : Dev nD) : FVec F S1024x512 .f32 := ev m c (q26 (r1 m c).2.2.1 (r1 m c).2.2.2 (r23 m c) (r25 m c).1 (r25 m c).2.1 (r25 m c).2.2)

/-- What part 27 returns. -/
def r27 (c : Dev nD) : Σ' (v839 : BitVec 32) (v844 : FVec F S512x512 .bf16) (v854 : FVec F S1024x256 .f32), FVec F S1024x256 .f32 := ev m c (q27 c (r1 m c).2.1 (r5 m c).1 (r5 m c).2.1 (r5 m c).2.2.1)

/-- What part 28 returns. -/
def r28 (c : Dev nD) : FVec F S1024x512 .f32 := ev m c (q28 (r2 m c).2.1 (r5 m c).1 (r5 m c).2.1 (r5 m c).2.2.1 (r26 m c) (r27 m c).1 (r27 m c).2.1 (r27 m c).2.2.1 (r27 m c).2.2.2)

/-- What part 29 returns. -/
def r29 (c : Dev nD) : Σ' (v906 : FVec F S512x512 .bf16) (v919 : FVec F S1024x256 .bf16), BitVec 32 := ev m c (q29 (r1 m c).2.1 (r5 m c).1 (r5 m c).2.1 (r5 m c).2.2.1)

/-- What part 30 returns. -/
def r30 (c : Dev nD) : Σ' (v935 : FVec F S1024x512 .f32), BitVec 32 := ev m c (q30 (r2 m c).2.1 (r5 m c).1 (r5 m c).2.1 (r5 m c).2.2.1 (r28 m c) (r29 m c).1 (r29 m c).2.1 (r29 m c).2.2)

/-- What part 31 returns. -/
def r31 (c : Dev nD) : Σ' (v968 : FVec F S512x512 .bf16) (v981 : FVec F S1024x256 .bf16), BitVec 32 := ev m c (q31 (r1 m c).2.1 (r5 m c).1 (r5 m c).2.1 (r5 m c).2.2.1 (r30 m c).2)

/-- What part 32 returns. -/
def r32 (c : Dev nD) : Σ' (v997 : FVec F S1024x512 .f32) (v1012 : BitVec 32) (c8_i32_838 : BitVec 32), BitVec 1 := ev m c (q32 (r1 m c).2.1 (r1 m c).2.2.1 (r5 m c).1 (r5 m c).2.1 (r5 m c).2.2.1 (r30 m c).1 (r31 m c).1 (r31 m c).2.1 (r31 m c).2.2)

/-- What part 33 returns. -/
def r33 (c : Dev nD) : Σ' (v1030 : FVec F S512x512 .bf16) (v1043 : FVec F S1024x256 .bf16) (v1048 : IVec S1024x32 1), FVec F S1024x32 .f32 := ev m c (q33 (r5 m c).1 (r5 m c).2.1 (r5 m c).2.2.1 (r32 m c).2.1 (r32 m c).2.2.1 (r32 m c).2.2.2)

/-- What part 34 returns. -/
def r34 (c : Dev nD) : Σ' (v1059 : FVec F S1024x512 .f32) (v1076 : BitVec 32) (v1077 : BitVec 32), BitVec 32 := ev m c (q34 (r1 m c).2.1 (r1 m c).2.2.2 (r5 m c).1 (r5 m c).2.2.1 (r32 m c).1 (r33 m c).1 (r33 m c).2.1 (r33 m c).2.2.1 (r33 m c).2.2.2)

/-- What part 35 returns. -/
def r35 (c : Dev nD) : Σ' (v1092 : FVec F S512x512 .bf16) (v1105 : FVec F S1024x256 .bf16), FVec F S1024x1 .f32 := ev m c (q35 (r5 m c).1 (r5 m c).2.1 (r5 m c).2.2.1 (r34 m c).2.1 (r34 m c).2.2.1 (r34 m c).2.2.2)

/-- What part 36 returns. -/
def r36 (c : Dev nD) : Σ' (v1121 : FVec F S1024x512 .f32) (v1136 : BitVec 32) (v1139 : BitVec 32) (v1140 : BitVec 32) (v1141 : BitVec 1), BitVec 32 := ev m c (q36 (r1 m c).2.1 (r2 m c).1 (r2 m c).2.1 (r5 m c).1 (r34 m c).1 (r35 m c).1 (r35 m c).2.1 (r35 m c).2.2)

/-- What part 37 returns. -/
def r37 (c : Dev nD) : FVec F S1024x512 .f32 := ev m c (q37 c (r5 m c).1 (r5 m c).2.1 (r5 m c).2.2.1 (r36 m c).1 (r36 m c).2.1 (r36 m c).2.2.1 (r36 m c).2.2.2.1 (r36 m c).2.2.2.2.1 (r36 m c).2.2.2.2.2)

variable (K : Dev nD × CK → ℕ) (c : Dev nD)

theorem run4 (v33 : BitVec 32) (v44 : BitVec 1) (v59 : BitVec 32) {Q : (PUnit) → sProp 𝕄} :
    iprop(St m K c 1)
      ⊢ iprop((St m K c 5 -∗ Q ⟨⟩)
          -∗ wp frame (wpE (defs₀ (F := F)) 𝒱₀ (c : Thread nD τ) none) Set.univ (q4 c v33 v44 v59) Q) := by
  rw [show q4 (F := F) c v33 v44 v59 = k0_part4_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v33 v44 v59 from rfl]
  unfold k0_part4_skel
  simp only [Prog.lift, Prog.bind_op, Prog.bind_ret, Prog.pure_eq_ret]
  iintro HS Hk
  iapply (step_send m K c _ 1 1 rfl 1 3 (dev5_eq c)
    ((show ∀ c, (1 : Fin 16) = srcH 1 c by decide +kernel) c) ((show ∀ c, (3 : Fin 16) = lndH 1 (tgt (chain 1) c) by decide +kernel) c)) $$ [HS]
  · iexact HS
  iintro HS
  iapply (step_send m K c _ 2 5 rfl 0 14 (dev6_eq c)
    ((show ∀ c, (0 : Fin 16) = srcH 5 c by decide +kernel) c) ((show ∀ c, (14 : Fin 16) = lndH 5 (tgt (chain 5) c) by decide +kernel) c)) $$ [HS]
  · iexact HS
  iintro HS
  iapply (step_send m K c _ 3 6 rfl 1 15 (dev7_eq c)
    ((show ∀ c, (1 : Fin 16) = srcH 6 c by decide +kernel) c) ((show ∀ c, (15 : Fin 16) = lndH 6 (tgt (chain 6) c) by decide +kernel) c)) $$ [HS]
  · iexact HS
  iintro HS
  by_cases hb : evn c = true
  · have hc : k0_cond1 c = 1#1 := (cond1_iff c).mpr hb
    simp only [dif_pos hc, Prog.lift, Prog.bind_op, Prog.bind_ret, Prog.pure_eq_ret]
    iapply (step_sendIf m K c _ 4 10 true rfl hb 0 6 (dev8_eq c hc)
      ((show ∀ c, evn c = true → (0 : Fin 16) = srcH 10 c by decide +kernel) c hb) ((show ∀ c, evn c = true → (6 : Fin 16) = lndH 10 (tgt (chain 10) c) by decide +kernel) c hb)) $$ [HS]
    · iexact HS
    iintro HS
    rw [wp_ret]
    imodintro
    iapply Hk
    iexact HS
  · have hc : ¬k0_cond1 c = 1#1 := fun h => hb ((cond1_iff c).mp h)
    simp only [dif_neg hc, Prog.lift, Prog.bind_op, Prog.bind_ret, Prog.pure_eq_ret]
    iapply (step_skip m K c 4 10 true rfl hb) $$ [HS]
    · iexact HS
    iintro HS
    rw [wp_ret]
    imodintro
    iapply Hk
    iexact HS

theorem run5 (v5 : BitVec 32) (v59 : BitVec 32) {Q : (Σ' (v118 : FVec F S1024x256 .bf16) (v131 : IVec S1024x32 32) (v146 : FVec F S1024x32 .f32) (v149 : BitVec 32) (v150 : BitVec 32), BitVec 1) → sProp 𝕄} (v : Σ' (v118 : FVec F S1024x256 .bf16) (v131 : IVec S1024x32 32) (v146 : FVec F S1024x32 .f32) (v149 : BitVec 32) (v150 : BitVec 32), BitVec 1) (hv : ev m c (q5 c v5 v59) = v) :
    iprop(St m K c 5 ∗ (((c : Thread nD τ).loc cc0_stg0_0) ↦[Finset.univ]{fullShare} (iblk m c 0 t0_0)) ∗ (((c : Thread nD τ).loc cc0_stg1_0) ↦[Finset.univ]{fullShare} (iblk m c 1 t0_0)) ∗ (((c : Thread nD τ).loc cc0_stg2_0) ↦[Finset.univ]{fullShare} (iblk m c 2 t0_0)))
      ⊢ iprop((St m K c 6 ∗ (((c : Thread nD τ).loc cc0_stg0_0) ↦[Finset.univ]{fullShare} (iblk m c 0 t0_0)) ∗ (((c : Thread nD τ).loc cc0_stg1_0) ↦[Finset.univ]{fullShare} (iblk m c 1 t0_0)) ∗ (((c : Thread nD τ).loc cc0_stg2_0) ↦[Finset.univ]{fullShare} (iblk m c 2 t0_0)) -∗ Q v)
          -∗ wp frame (wpE (defs₀ (F := F)) 𝒱₀ (c : Thread nD τ) none) Set.univ (q5 c v5 v59) Q) := by
  rw [show q5 (F := F) c v5 v59 = k0_part5_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v59 from rfl]
  unfold k0_part5_skel
  simp only [Prog.lift, Prog.bind_op, Prog.bind_ret, Prog.pure_eq_ret]
  iintro ⟨HS, H0, H1, H2⟩ Hk
  by_cases hb : evn c = false
  · have hc : k0_cond2 c = 1#1 := (cond2_iff c).mpr hb
    simp only [dif_pos hc, Prog.lift, Prog.bind_op, Prog.bind_ret, Prog.pure_eq_ret]
    iapply (step_sendIf m K c _ 5 10 false rfl hb 0 10 (dev9_eq c hc)
      ((show ∀ c, evn c = false → (0 : Fin 16) = srcH 10 c by decide +kernel) c hb) ((show ∀ c, evn c = false → (10 : Fin 16) = lndH 10 (tgt (chain 10) c) by decide +kernel) c hb)) $$ [HS]
    · iexact HS
    iintro HS
    iapply (wp_load 𝒱₀ (c : Thread nD τ) none Set.univ (m := Memref.whole cc0_stg0_0) (S := Finset.univ) (Finset.subset_univ _)) $$ H0
    iintro H0
    iapply (wp_load 𝒱₀ (c : Thread nD τ) none Set.univ (m := Memref.whole cc0_stg1_0) (S := Finset.univ) (Finset.subset_univ _)) $$ H1
    iintro H1
    iapply (wp_load 𝒱₀ (c : Thread nD τ) none Set.univ (m := Memref.whole cc0_stg2_0) (S := Finset.univ) (Finset.subset_univ _)) $$ H2
    iintro H2
    iapply (wp_load 𝒱₀ (c : Thread nD τ) none Set.univ (m := Memref.whole cc0_stg2_0) (S := Finset.univ) (Finset.subset_univ _)) $$ H2
    iintro H2
    rw [wp_ret]
    imodintro
    iapply (at_eq Q (a := v) ?_)
    · refine hv.symm.trans ?_; show ev m c (k0_part5_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v59) = _; unfold k0_part5_skel; simp only [hc, dite_true, dite_false, if_true, if_false]; rfl
    iapply Hk
    isplitl [HS]; · iexact HS
    isplitl [H0]; · iexact H0
    isplitl [H1]; · iexact H1
    iexact H2
  · have hc : ¬k0_cond2 c = 1#1 := fun h => hb ((cond2_iff c).mp h)
    simp only [dif_neg hc, Prog.lift, Prog.bind_op, Prog.bind_ret, Prog.pure_eq_ret]
    iapply (step_skip m K c 5 10 false rfl hb) $$ [HS]
    · iexact HS
    iintro HS
    iapply (wp_load 𝒱₀ (c : Thread nD τ) none Set.univ (m := Memref.whole cc0_stg0_0) (S := Finset.univ) (Finset.subset_univ _)) $$ H0
    iintro H0
    iapply (wp_load 𝒱₀ (c : Thread nD τ) none Set.univ (m := Memref.whole cc0_stg1_0) (S := Finset.univ) (Finset.subset_univ _)) $$ H1
    iintro H1
    iapply (wp_load 𝒱₀ (c : Thread nD τ) none Set.univ (m := Memref.whole cc0_stg2_0) (S := Finset.univ) (Finset.subset_univ _)) $$ H2
    iintro H2
    iapply (wp_load 𝒱₀ (c : Thread nD τ) none Set.univ (m := Memref.whole cc0_stg2_0) (S := Finset.univ) (Finset.subset_univ _)) $$ H2
    iintro H2
    rw [wp_ret]
    imodintro
    iapply (at_eq Q (a := v) ?_)
    · refine hv.symm.trans ?_; show ev m c (k0_part5_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v59) = _; unfold k0_part5_skel; simp only [hc, dite_true, dite_false, if_true, if_false]; rfl
    iapply Hk
    isplitl [HS]; · iexact HS
    isplitl [H0]; · iexact H0
    isplitl [H1]; · iexact H1
    iexact H2

theorem run6 (v118 : FVec F S1024x256 .bf16) (v131 : IVec S1024x32 32) (v146 : FVec F S1024x32 .f32) (v149 : BitVec 32) (v150 : BitVec 32) (v155 : BitVec 1) {Q : (FVec F S1024x512 .f32) → sProp 𝕄} (v : FVec F S1024x512 .f32) (hv : ev m c (q6 v118 v131 v146 v149 v150 v155) = v) :
    iprop(St m K c 6)
      ⊢ iprop((St m K c 6 -∗ Q v)
          -∗ wp frame (wpE (defs₀ (F := F)) 𝒱₀ (c : Thread nD τ) none) Set.univ (q6 v118 v131 v146 v149 v150 v155) Q) := by
  rw [show q6 (F := F) v118 v131 v146 v149 v150 v155 = k0_part6_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v149 v150 v155 from rfl]
  unfold k0_part6_skel
  simp only [Prog.lift, Prog.bind_op, Prog.bind_ret, Prog.pure_eq_ret]
  iintro HS Hk
  iapply (step_load m K c 6 0 ((show ∀ c, ((0 : Fin 16), (3 : Fin 4)) ∈ (sg c 6).A by decide +kernel) c) _ (unit_sub 0 _ _ _ (by decide))) $$ [HS]
  · iexact HS
  iintro HS
  iapply (step_load m K c 6 0 ((show ∀ c, ((0 : Fin 16), (3 : Fin 4)) ∈ (sg c 6).A by decide +kernel) c) _ (unit_sub 0 _ _ _ (by decide))) $$ [HS]
  · iexact HS
  iintro HS
  rw [wp_ret]
  imodintro
  iapply (at_eq Q (a := v) ?_)
  · refine hv.symm.trans ?_; rfl
  iapply Hk
  iexact HS

theorem run7 (v5 : BitVec 32) (v118 : FVec F S1024x256 .bf16) (v131 : IVec S1024x32 32) (v146 : FVec F S1024x32 .f32) {Q : (Σ' (v212 : FVec F S512x512 .bf16) (v225 : FVec F S1024x256 .bf16) (v227 : BitVec 32), BitVec 32) → sProp 𝕄} (v : Σ' (v212 : FVec F S512x512 .bf16) (v225 : FVec F S1024x256 .bf16) (v227 : BitVec 32), BitVec 32) (hv : ev m c (q7 v5 v118 v131 v146) = v) :
    iprop(St m K c 6)
      ⊢ iprop((St m K c 6 -∗ Q v)
          -∗ wp frame (wpE (defs₀ (F := F)) 𝒱₀ (c : Thread nD τ) none) Set.univ (q7 v5 v118 v131 v146) Q) := by
  rw [show q7 (F := F) v5 v118 v131 v146 = k0_part7_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146 from rfl]
  unfold k0_part7_skel
  simp only [Prog.lift, Prog.bind_op, Prog.bind_ret, Prog.pure_eq_ret]
  iintro HS Hk
  iapply (step_load m K c 6 1 ((show ∀ c, ((1 : Fin 16), (3 : Fin 4)) ∈ (sg c 6).A by decide +kernel) c) _ (unit_sub 1 _ _ _ (by decide))) $$ [HS]
  · iexact HS
  iintro HS
  iapply (step_load m K c 6 1 ((show ∀ c, ((1 : Fin 16), (3 : Fin 4)) ∈ (sg c 6).A by decide +kernel) c) _ (unit_sub 1 _ _ _ (by decide))) $$ [HS]
  · iexact HS
  iintro HS
  rw [wp_ret]
  imodintro
  iapply (at_eq Q (a := v) ?_)
  · refine hv.symm.trans ?_; rfl
  iapply Hk
  iexact HS

theorem run8 (v19 : BitVec 32) (v118 : FVec F S1024x256 .bf16) (v131 : IVec S1024x32 32) (v146 : FVec F S1024x32 .f32) (v193 : FVec F S1024x512 .f32) (v212 : FVec F S512x512 .bf16) (v225 : FVec F S1024x256 .bf16) (v227 : BitVec 32) (c1_i32_165 : BitVec 32) {Q : (FVec F S1024x512 .f32) → sProp 𝕄} (v : FVec F S1024x512 .f32) (hv : ev m c (q8 v19 v118 v131 v146 v193 v212 v225 v227 c1_i32_165) = v) :
    iprop(St m K c 6)
      ⊢ iprop((St m K c 8 -∗ Q v)
          -∗ wp frame (wpE (defs₀ (F := F)) 𝒱₀ (c : Thread nD τ) none) Set.univ (q8 v19 v118 v131 v146 v193 v212 v225 v227 c1_i32_165) Q) := by
  rw [show q8 (F := F) v19 v118 v131 v146 v193 v212 v225 v227 c1_i32_165 = k0_part8_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v118 v131 v146 v193 v212 v225 v227 c1_i32_165 from rfl]
  unfold k0_part8_skel
  simp only [Prog.lift, Prog.bind_op, Prog.bind_ret, Prog.pure_eq_ret]
  iintro HS Hk
  iapply (step_sw m K c 6 0 rfl 2 0) $$ [HS]
  · iexact HS
  iintro HS
  iapply (step_rw m K c 7 0 rfl 0 2) $$ [HS]
  · iexact HS
  iintro HS
  rw [wp_ret]
  imodintro
  iapply (at_eq Q (a := v) ?_)
  · refine hv.symm.trans ?_; rfl
  iapply Hk
  iexact HS

theorem run9 (v5 : BitVec 32) (v19 : BitVec 32) (v44 : BitVec 1) (v59 : BitVec 32) {Q : (Σ' (v281 : BitVec 32), FVec F S512x512 .bf16) → sProp 𝕄} (v : Σ' (v281 : BitVec 32), FVec F S512x512 .bf16) (hv : ev m c (q9 c v5 v19 v44 v59) = v) :
    iprop(St m K c 8)
      ⊢ iprop((St m K c 10 -∗ Q v)
          -∗ wp frame (wpE (defs₀ (F := F)) 𝒱₀ (c : Thread nD τ) none) Set.univ (q9 c v5 v19 v44 v59) Q) := by
  rw [show q9 (F := F) c v5 v19 v44 v59 = k0_part9_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59 from rfl]
  unfold k0_part9_skel
  simp only [Prog.lift, Prog.bind_op, Prog.bind_ret, Prog.pure_eq_ret]
  iintro HS Hk
  iapply (step_send m K c _ 8 2 rfl 2 4 (dev10_eq c)
    ((show ∀ c, (2 : Fin 16) = srcH 2 c by decide +kernel) c) ((show ∀ c, (4 : Fin 16) = lndH 2 (tgt (chain 2) c) by decide +kernel) c)) $$ [HS]
  · iexact HS
  iintro HS
  by_cases hb : evn c = true
  · have hc : k0_cond3 c = 1#1 := (cond3_iff c).mpr hb
    simp only [dif_pos hc, Prog.lift, Prog.bind_op, Prog.bind_ret, Prog.pure_eq_ret]
    iapply (step_sendIf m K c _ 9 11 true rfl hb 2 8 (dev11_eq c hc)
      ((show ∀ c, evn c = true → (2 : Fin 16) = srcH 11 c by decide +kernel) c hb) ((show ∀ c, evn c = true → (8 : Fin 16) = lndH 11 (tgt (chain 11) c) by decide +kernel) c hb)) $$ [HS]
    · iexact HS
    iintro HS
    iapply (step_load m K c 10 2 ((show ∀ c, ((2 : Fin 16), (3 : Fin 4)) ∈ (sg c 10).A by decide +kernel) c) _ (unit_sub 2 _ _ _ (by decide))) $$ [HS]
    · iexact HS
    iintro HS
    iapply (step_load m K c 10 2 ((show ∀ c, ((2 : Fin 16), (3 : Fin 4)) ∈ (sg c 10).A by decide +kernel) c) _ (unit_sub 2 _ _ _ (by decide))) $$ [HS]
    · iexact HS
    iintro HS
    rw [wp_ret]
    imodintro
    iapply (at_eq Q (a := v) ?_)
    · refine hv.symm.trans ?_; show ev m c (k0_part9_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59) = _; unfold k0_part9_skel; simp only [hc, dite_true, dite_false, if_true, if_false]; rfl
    iapply Hk
    iexact HS
  · have hc : ¬k0_cond3 c = 1#1 := fun h => hb ((cond3_iff c).mp h)
    simp only [dif_neg hc, Prog.lift, Prog.bind_op, Prog.bind_ret, Prog.pure_eq_ret]
    iapply (step_skip m K c 9 11 true rfl hb) $$ [HS]
    · iexact HS
    iintro HS
    iapply (step_load m K c 10 2 ((show ∀ c, ((2 : Fin 16), (3 : Fin 4)) ∈ (sg c 10).A by decide +kernel) c) _ (unit_sub 2 _ _ _ (by decide))) $$ [HS]
    · iexact HS
    iintro HS
    iapply (step_load m K c 10 2 ((show ∀ c, ((2 : Fin 16), (3 : Fin 4)) ∈ (sg c 10).A by decide +kernel) c) _ (unit_sub 2 _ _ _ (by decide))) $$ [HS]
    · iexact HS
    iintro HS
    rw [wp_ret]
    imodintro
    iapply (at_eq Q (a := v) ?_)
    · refine hv.symm.trans ?_; show ev m c (k0_part9_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59) = _; unfold k0_part9_skel; simp only [hc, dite_true, dite_false, if_true, if_false]; rfl
    iapply Hk
    iexact HS

theorem run10 (v118 : FVec F S1024x256 .bf16) (v131 : IVec S1024x32 32) (v146 : FVec F S1024x32 .f32) (v241 : FVec F S1024x512 .f32) (v281 : BitVec 32) (v286 : FVec F S512x512 .bf16) {Q : (FVec F S1024x512 .f32) → sProp 𝕄} (v : FVec F S1024x512 .f32) (hv : ev m c (q10 v118 v131 v146 v241 v281 v286) = v) :
    iprop(St m K c 10)
      ⊢ iprop((St m K c 11 -∗ Q v)
          -∗ wp frame (wpE (defs₀ (F := F)) 𝒱₀ (c : Thread nD τ) none) Set.univ (q10 v118 v131 v146 v241 v281 v286) Q) := by
  rw [show q10 (F := F) v118 v131 v146 v241 v281 v286 = k0_part10_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v241 v281 v286 from rfl]
  unfold k0_part10_skel
  simp only [Prog.lift, Prog.bind_op, Prog.bind_ret, Prog.pure_eq_ret]
  iintro HS Hk
  iapply (step_sw m K c 10 5 rfl 14 0) $$ [HS]
  · iexact HS
  iintro HS
  rw [wp_ret]
  imodintro
  iapply (at_eq Q (a := v) ?_)
  · refine hv.symm.trans ?_; rfl
  iapply Hk
  iexact HS

theorem run11 (v5 : BitVec 32) (v33 : BitVec 32) (v44 : BitVec 1) (v59 : BitVec 32) {Q : (Σ' (v345 : BitVec 32) (v346 : BitVec 32) (v347 : BitVec 1), BitVec 1) → sProp 𝕄} (v : Σ' (v345 : BitVec 32) (v346 : BitVec 32) (v347 : BitVec 1), BitVec 1) (hv : ev m c (q11 c v5 v33 v44 v59) = v) :
    iprop(St m K c 11)
      ⊢ iprop((St m K c 14 -∗ Q v)
          -∗ wp frame (wpE (defs₀ (F := F)) 𝒱₀ (c : Thread nD τ) none) Set.univ (q11 c v5 v33 v44 v59) Q) := by
  rw [show q11 (F := F) c v5 v33 v44 v59 = k0_part11_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59 from rfl]
  unfold k0_part11_skel
  simp only [Prog.lift, Prog.bind_op, Prog.bind_ret, Prog.pure_eq_ret]
  iintro HS Hk
  iapply (step_rw m K c 11 5 rfl 0 14) $$ [HS]
  · iexact HS
  iintro HS
  iapply (step_send m K c _ 12 7 rfl 14 12 (dev12_eq c)
    ((show ∀ c, (14 : Fin 16) = srcH 7 c by decide +kernel) c) ((show ∀ c, (12 : Fin 16) = lndH 7 (tgt (chain 7) c) by decide +kernel) c)) $$ [HS]
  · iexact HS
  iintro HS
  by_cases hb : evn c = false
  · have hc : k0_cond4 c = 1#1 := (cond4_iff c).mpr hb
    simp only [dif_pos hc, Prog.lift, Prog.bind_op, Prog.bind_ret, Prog.pure_eq_ret]
    iapply (step_sendIf m K c _ 13 11 false rfl hb 14 8 (dev13_eq c hc)
      ((show ∀ c, evn c = false → (14 : Fin 16) = srcH 11 c by decide +kernel) c hb) ((show ∀ c, evn c = false → (8 : Fin 16) = lndH 11 (tgt (chain 11) c) by decide +kernel) c hb)) $$ [HS]
    · iexact HS
    iintro HS
    rw [wp_ret]
    imodintro
    iapply (at_eq Q (a := v) ?_)
    · refine hv.symm.trans ?_; show ev m c (k0_part11_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part11_skel; simp only [hc, dite_true, dite_false, if_true, if_false]; rfl
    iapply Hk
    iexact HS
  · have hc : ¬k0_cond4 c = 1#1 := fun h => hb ((cond4_iff c).mp h)
    simp only [dif_neg hc, Prog.lift, Prog.bind_op, Prog.bind_ret, Prog.pure_eq_ret]
    iapply (step_skip m K c 13 11 false rfl hb) $$ [HS]
    · iexact HS
    iintro HS
    rw [wp_ret]
    imodintro
    iapply (at_eq Q (a := v) ?_)
    · refine hv.symm.trans ?_; show ev m c (k0_part11_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part11_skel; simp only [hc, dite_true, dite_false, if_true, if_false]; rfl
    iapply Hk
    iexact HS

theorem run12 (v118 : FVec F S1024x256 .bf16) (v131 : IVec S1024x32 32) (v146 : FVec F S1024x32 .f32) (v345 : BitVec 32) (v346 : BitVec 32) (v347 : BitVec 1) (v348 : BitVec 1) {Q : (Σ' (v361 : FVec F S512x512 .bf16) (v374 : FVec F S1024x256 .bf16), FVec F S1024x256 .f32) → sProp 𝕄} (v : Σ' (v361 : FVec F S512x512 .bf16) (v374 : FVec F S1024x256 .bf16), FVec F S1024x256 .f32) (hv : ev m c (q12 v118 v131 v146 v345 v346 v347 v348) = v) :
    iprop(St m K c 14)
      ⊢ iprop((St m K c 14 -∗ Q v)
          -∗ wp frame (wpE (defs₀ (F := F)) 𝒱₀ (c : Thread nD τ) none) Set.univ (q12 v118 v131 v146 v345 v346 v347 v348) Q) := by
  rw [show q12 (F := F) v118 v131 v146 v345 v346 v347 v348 = k0_part12_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v345 v346 v347 v348 from rfl]
  unfold k0_part12_skel
  simp only [Prog.lift, Prog.bind_op, Prog.bind_ret, Prog.pure_eq_ret]
  iintro HS Hk
  iapply (step_load m K c 14 14 ((show ∀ c, ((14 : Fin 16), (3 : Fin 4)) ∈ (sg c 14).A by decide +kernel) c) _ (unit_sub 14 _ _ _ (by decide))) $$ [HS]
  · iexact HS
  iintro HS
  iapply (step_load m K c 14 14 ((show ∀ c, ((14 : Fin 16), (3 : Fin 4)) ∈ (sg c 14).A by decide +kernel) c) _ (unit_sub 14 _ _ _ (by decide))) $$ [HS]
  · iexact HS
  iintro HS
  rw [wp_ret]
  imodintro
  iapply (at_eq Q (a := v) ?_)
  · refine hv.symm.trans ?_; rfl
  iapply Hk
  iexact HS

theorem run13 (v19 : BitVec 32) (v315 : FVec F S1024x512 .f32) (v361 : FVec F S512x512 .bf16) (v374 : FVec F S1024x256 .bf16) (v386 : FVec F S1024x256 .f32) {Q : (FVec F S1024x512 .f32) → sProp 𝕄} (v : FVec F S1024x512 .f32) (hv : ev m c (q13 v19 v315 v361 v374 v386) = v) :
    iprop(St m K c 14)
      ⊢ iprop((St m K c 16 -∗ Q v)
          -∗ wp frame (wpE (defs₀ (F := F)) 𝒱₀ (c : Thread nD τ) none) Set.univ (q13 v19 v315 v361 v374 v386) Q) := by
  rw [show q13 (F := F) v19 v315 v361 v374 v386 = k0_part13_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v315 v361 v374 v386 from rfl]
  unfold k0_part13_skel
  simp only [Prog.lift, Prog.bind_op, Prog.bind_ret, Prog.pure_eq_ret]
  iintro HS Hk
  iapply (step_sw m K c 14 1 rfl 3 1) $$ [HS]
  · iexact HS
  iintro HS
  iapply (step_rw m K c 15 1 rfl 1 3) $$ [HS]
  · iexact HS
  iintro HS
  rw [wp_ret]
  imodintro
  iapply (at_eq Q (a := v) ?_)
  · refine hv.symm.trans ?_; rfl
  iapply Hk
  iexact HS

theorem run14 (v5 : BitVec 32) (v44 : BitVec 1) (v59 : BitVec 32) (v131 : IVec S1024x32 32) (v146 : FVec F S1024x32 .f32) {Q : (Σ' (v430 : BitVec 32) (v435 : FVec F S512x512 .bf16), FVec F S1024x32 .f32) → sProp 𝕄} (v : Σ' (v430 : BitVec 32) (v435 : FVec F S512x512 .bf16), FVec F S1024x32 .f32) (hv : ev m c (q14 c v5 v44 v59 v131 v146) = v) :
    iprop(St m K c 16)
      ⊢ iprop((St m K c 18 -∗ Q v)
          -∗ wp frame (wpE (defs₀ (F := F)) 𝒱₀ (c : Thread nD τ) none) Set.univ (q14 c v5 v44 v59 v131 v146) Q) := by
  rw [show q14 (F := F) c v5 v44 v59 v131 v146 = k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v44 v59 v131 v146 from rfl]
  unfold k0_part14_skel
  simp only [Prog.lift, Prog.bind_op, Prog.bind_ret, Prog.pure_eq_ret]
  iintro HS Hk
  iapply (step_send m K c _ 16 3 rfl 3 5 (dev14_eq c)
    ((show ∀ c, (3 : Fin 16) = srcH 3 c by decide +kernel) c) ((show ∀ c, (5 : Fin 16) = lndH 3 (tgt (chain 3) c) by decide +kernel) c)) $$ [HS]
  · iexact HS
  iintro HS
  by_cases hb : evn c = true
  · have hc : k0_cond5 c = 1#1 := (cond5_iff c).mpr hb
    simp only [dif_pos hc, Prog.lift, Prog.bind_op, Prog.bind_ret, Prog.pure_eq_ret]
    iapply (step_sendIf m K c _ 17 12 true rfl hb 3 9 (dev15_eq c hc)
      ((show ∀ c, evn c = true → (3 : Fin 16) = srcH 12 c by decide +kernel) c hb) ((show ∀ c, evn c = true → (9 : Fin 16) = lndH 12 (tgt (chain 12) c) by decide +kernel) c hb)) $$ [HS]
    · iexact HS
    iintro HS
    iapply (step_load m K c 18 3 ((show ∀ c, ((3 : Fin 16), (3 : Fin 4)) ∈ (sg c 18).A by decide +kernel) c) _ (unit_sub 3 _ _ _ (by decide))) $$ [HS]
    · iexact HS
    iintro HS
    iapply (step_load m K c 18 3 ((show ∀ c, ((3 : Fin 16), (3 : Fin 4)) ∈ (sg c 18).A by decide +kernel) c) _ (unit_sub 3 _ _ _ (by decide))) $$ [HS]
    · iexact HS
    iintro HS
    rw [wp_ret]
    imodintro
    iapply (at_eq Q (a := v) ?_)
    · refine hv.symm.trans ?_; show ev m c (k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v44 v59 v131 v146) = _; unfold k0_part14_skel; simp only [hc, dite_true, dite_false, if_true, if_false]; rfl
    iapply Hk
    iexact HS
  · have hc : ¬k0_cond5 c = 1#1 := fun h => hb ((cond5_iff c).mp h)
    simp only [dif_neg hc, Prog.lift, Prog.bind_op, Prog.bind_ret, Prog.pure_eq_ret]
    iapply (step_skip m K c 17 12 true rfl hb) $$ [HS]
    · iexact HS
    iintro HS
    iapply (step_load m K c 18 3 ((show ∀ c, ((3 : Fin 16), (3 : Fin 4)) ∈ (sg c 18).A by decide +kernel) c) _ (unit_sub 3 _ _ _ (by decide))) $$ [HS]
    · iexact HS
    iintro HS
    iapply (step_load m K c 18 3 ((show ∀ c, ((3 : Fin 16), (3 : Fin 4)) ∈ (sg c 18).A by decide +kernel) c) _ (unit_sub 3 _ _ _ (by decide))) $$ [HS]
    · iexact HS
    iintro HS
    rw [wp_ret]
    imodintro
    iapply (at_eq Q (a := v) ?_)
    · refine hv.symm.trans ?_; show ev m c (k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v44 v59 v131 v146) = _; unfold k0_part14_skel; simp only [hc, dite_true, dite_false, if_true, if_false]; rfl
    iapply Hk
    iexact HS

theorem run15 (v33 : BitVec 32) (v118 : FVec F S1024x256 .bf16) (v131 : IVec S1024x32 32) (v146 : FVec F S1024x32 .f32) (v390 : FVec F S1024x512 .f32) (v430 : BitVec 32) (v435 : FVec F S512x512 .bf16) (v442 : FVec F S1024x32 .f32) {Q : (FVec F S1024x512 .f32) → sProp 𝕄} (v : FVec F S1024x512 .f32) (hv : ev m c (q15 v33 v118 v131 v146 v390 v430 v435 v442) = v) :
    iprop(St m K c 18)
      ⊢ iprop((St m K c 19 -∗ Q v)
          -∗ wp frame (wpE (defs₀ (F := F)) 𝒱₀ (c : Thread nD τ) none) Set.univ (q15 v33 v118 v131 v146 v390 v430 v435 v442) Q) := by
  rw [show q15 (F := F) v33 v118 v131 v146 v390 v430 v435 v442 = k0_part15_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v33 v118 v131 v146 v390 v430 v435 v442 from rfl]
  unfold k0_part15_skel
  simp only [Prog.lift, Prog.bind_op, Prog.bind_ret, Prog.pure_eq_ret]
  iintro HS Hk
  iapply (step_sw m K c 18 6 rfl 15 1) $$ [HS]
  · iexact HS
  iintro HS
  rw [wp_ret]
  imodintro
  iapply (at_eq Q (a := v) ?_)
  · refine hv.symm.trans ?_; rfl
  iapply Hk
  iexact HS

theorem run16 (v5 : BitVec 32) (v33 : BitVec 32) (v44 : BitVec 1) (v59 : BitVec 32) {Q : (BitVec 32) → sProp 𝕄} (v : BitVec 32) (hv : ev m c (q16 c v5 v33 v44 v59) = v) :
    iprop(St m K c 19)
      ⊢ iprop((St m K c 22 -∗ Q v)
          -∗ wp frame (wpE (defs₀ (F := F)) 𝒱₀ (c : Thread nD τ) none) Set.univ (q16 c v5 v33 v44 v59) Q) := by
  rw [show q16 (F := F) c v5 v33 v44 v59 = k0_part16_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59 from rfl]
  unfold k0_part16_skel
  simp only [Prog.lift, Prog.bind_op, Prog.bind_ret, Prog.pure_eq_ret]
  iintro HS Hk
  iapply (step_rw m K c 19 6 rfl 1 15) $$ [HS]
  · iexact HS
  iintro HS
  iapply (step_send m K c _ 20 8 rfl 15 13 (dev16_eq c)
    ((show ∀ c, (15 : Fin 16) = srcH 8 c by decide +kernel) c) ((show ∀ c, (13 : Fin 16) = lndH 8 (tgt (chain 8) c) by decide +kernel) c)) $$ [HS]
  · iexact HS
  iintro HS
  by_cases hb : evn c = false
  · have hc : k0_cond6 c = 1#1 := (cond6_iff c).mpr hb
    simp only [dif_pos hc, Prog.lift, Prog.bind_op, Prog.bind_ret, Prog.pure_eq_ret]
    iapply (step_sendIf m K c _ 21 12 false rfl hb 15 9 (dev17_eq c hc)
      ((show ∀ c, evn c = false → (15 : Fin 16) = srcH 12 c by decide +kernel) c hb) ((show ∀ c, evn c = false → (9 : Fin 16) = lndH 12 (tgt (chain 12) c) by decide +kernel) c hb)) $$ [HS]
    · iexact HS
    iintro HS
    rw [wp_ret]
    imodintro
    iapply (at_eq Q (a := v) ?_)
    · refine hv.symm.trans ?_; show ev m c (k0_part16_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part16_skel; simp only [hc, dite_true, dite_false, if_true, if_false]; rfl
    iapply Hk
    iexact HS
  · have hc : ¬k0_cond6 c = 1#1 := fun h => hb ((cond6_iff c).mp h)
    simp only [dif_neg hc, Prog.lift, Prog.bind_op, Prog.bind_ret, Prog.pure_eq_ret]
    iapply (step_skip m K c 21 12 false rfl hb) $$ [HS]
    · iexact HS
    iintro HS
    rw [wp_ret]
    imodintro
    iapply (at_eq Q (a := v) ?_)
    · refine hv.symm.trans ?_; show ev m c (k0_part16_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part16_skel; simp only [hc, dite_true, dite_false, if_true, if_false]; rfl
    iapply Hk
    iexact HS

theorem run17 (v118 : FVec F S1024x256 .bf16) (v131 : IVec S1024x32 32) (v146 : FVec F S1024x32 .f32) (v464 : FVec F S1024x512 .f32) (v505 : BitVec 32) {Q : (FVec F S1024x512 .f32) → sProp 𝕄} (v : FVec F S1024x512 .f32) (hv : ev m c (q17 v118 v131 v146 v464 v505) = v) :
    iprop(St m K c 22)
      ⊢ iprop((St m K c 22 -∗ Q v)
          -∗ wp frame (wpE (defs₀ (F := F)) 𝒱₀ (c : Thread nD τ) none) Set.univ (q17 v118 v131 v146 v464 v505) Q) := by
  rw [show q17 (F := F) v118 v131 v146 v464 v505 = k0_part17_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v464 v505 from rfl]
  unfold k0_part17_skel
  simp only [Prog.lift, Prog.bind_op, Prog.bind_ret, Prog.pure_eq_ret]
  iintro HS Hk
  iapply (step_load m K c 22 15 ((show ∀ c, ((15 : Fin 16), (3 : Fin 4)) ∈ (sg c 22).A by decide +kernel) c) _ (unit_sub 15 _ _ _ (by decide))) $$ [HS]
  · iexact HS
  iintro HS
  iapply (step_load m K c 22 15 ((show ∀ c, ((15 : Fin 16), (3 : Fin 4)) ∈ (sg c 22).A by decide +kernel) c) _ (unit_sub 15 _ _ _ (by decide))) $$ [HS]
  · iexact HS
  iintro HS
  rw [wp_ret]
  imodintro
  iapply (at_eq Q (a := v) ?_)
  · refine hv.symm.trans ?_; rfl
  iapply Hk
  iexact HS

theorem run18 (v5 : BitVec 32) (v44 : BitVec 1) (v59 : BitVec 32) {Q : (BitVec 32) → sProp 𝕄} (v : BitVec 32) (hv : ev m c (q18 v5 v44 v59) = v) :
    iprop(St m K c 22)
      ⊢ iprop((St m K c 24 -∗ Q v)
          -∗ wp frame (wpE (defs₀ (F := F)) 𝒱₀ (c : Thread nD τ) none) Set.univ (q18 v5 v44 v59) Q) := by
  rw [show q18 (F := F) v5 v44 v59 = k0_part18_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v44 v59 from rfl]
  unfold k0_part18_skel
  simp only [Prog.lift, Prog.bind_op, Prog.bind_ret, Prog.pure_eq_ret]
  iintro HS Hk
  iapply (step_sw m K c 22 10 rfl 8 0) $$ [HS]
  · iexact HS
  iintro HS
  iapply (step_rw m K c 23 10 rfl 0 8) $$ [HS]
  · iexact HS
  iintro HS
  rw [wp_ret]
  imodintro
  iapply (at_eq Q (a := v) ?_)
  · refine hv.symm.trans ?_; rfl
  iapply Hk
  iexact HS

theorem run19 (v118 : FVec F S1024x256 .bf16) (v131 : IVec S1024x32 32) (v146 : FVec F S1024x32 .f32) (v539 : FVec F S1024x512 .f32) (v568 : BitVec 32) {Q : (FVec F S1024x512 .f32) → sProp 𝕄} (v : FVec F S1024x512 .f32) (hv : ev m c (q19 c v118 v131 v146 v539 v568) = v) :
    iprop(St m K c 24)
      ⊢ iprop((St m K c 24 -∗ Q v)
          -∗ wp frame (wpE (defs₀ (F := F)) 𝒱₀ (c : Thread nD τ) none) Set.univ (q19 c v118 v131 v146 v539 v568) Q) := by
  rw [show q19 (F := F) c v118 v131 v146 v539 v568 = k0_part19_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v118 v131 v146 v539 v568 from rfl]
  unfold k0_part19_skel
  simp only [Prog.lift, Prog.bind_op, Prog.bind_ret, Prog.pure_eq_ret]
  iintro HS Hk
  iapply (step_load m K c 24 (lndH 10 c) ((show ∀ c, (lndH 10 c, (3 : Fin 4)) ∈ (sg c 24).A by decide +kernel) c) _
    (unit_sub (lndH 10 c) _ _ _ ((show ∀ c, (slotOf (lndH 10 c)).val ≤ k0_off1 c 5#32 3#32 0 ∧ k0_off1 c 5#32 3#32 0 + 1 ≤ (slotOf (lndH 10 c)).val + 1 ∧ rowOf (lndH 10 c) ≤ k0_off1 c 5#32 3#32 1 ∧ k0_off1 c 5#32 3#32 1 + 2 ≤ rowOf (lndH 10 c) + 2 by decide +kernel) c))) $$ [HS]
  · iexact HS
  iintro HS
  rw [wp_ret]
  imodintro
  iapply (at_eq Q (a := v) ?_)
  · refine hv.symm.trans ?_; rfl
  iapply Hk
  iexact HS

theorem run20 (v5 : BitVec 32) (v33 : BitVec 32) (v44 : BitVec 1) (v59 : BitVec 32) {Q : (Σ' (v630 : BitVec 32), FVec F S256x512 .bf16) → sProp 𝕄} (v : Σ' (v630 : BitVec 32), FVec F S256x512 .bf16) (hv : ev m c (q20 c v5 v33 v44 v59) = v) :
    iprop(St m K c 24)
      ⊢ iprop((St m K c 27 -∗ Q v)
          -∗ wp frame (wpE (defs₀ (F := F)) 𝒱₀ (c : Thread nD τ) none) Set.univ (q20 c v5 v33 v44 v59) Q) := by
  rw [show q20 (F := F) c v5 v33 v44 v59 = k0_part20_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59 from rfl]
  unfold k0_part20_skel
  simp only [Prog.lift, Prog.bind_op, Prog.bind_ret, Prog.pure_eq_ret]
  iintro HS Hk
  iapply (step_sw m K c 24 2 rfl 4 2) $$ [HS]
  · iexact HS
  iintro HS
  iapply (step_rw m K c 25 2 rfl 2 4) $$ [HS]
  · iexact HS
  iintro HS
  by_cases hb : evn c = true
  · have hc : k0_cond7 c = 1#1 := (cond7_iff c).mpr hb
    simp only [dif_pos hc, Prog.lift, Prog.bind_op, Prog.bind_ret, Prog.pure_eq_ret]
    iapply (step_sendIf m K c _ 26 13 true rfl hb 4 10 (dev18_eq c hc)
      ((show ∀ c, evn c = true → (4 : Fin 16) = srcH 13 c by decide +kernel) c hb) ((show ∀ c, evn c = true → (10 : Fin 16) = lndH 13 (tgt (chain 13) c) by decide +kernel) c hb)) $$ [HS]
    · iexact HS
    iintro HS
    iapply (step_load m K c 27 4 ((show ∀ c, ((4 : Fin 16), (3 : Fin 4)) ∈ (sg c 27).A by decide +kernel) c) _ (unit_sub 4 _ _ _ (by decide))) $$ [HS]
    · iexact HS
    iintro HS
    rw [wp_ret]
    imodintro
    iapply (at_eq Q (a := v) ?_)
    · refine hv.symm.trans ?_; show ev m c (k0_part20_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part20_skel; simp only [hc, dite_true, dite_false, if_true, if_false]; rfl
    iapply Hk
    iexact HS
  · have hc : ¬k0_cond7 c = 1#1 := fun h => hb ((cond7_iff c).mp h)
    simp only [dif_neg hc, Prog.lift, Prog.bind_op, Prog.bind_ret, Prog.pure_eq_ret]
    iapply (step_skip m K c 26 13 true rfl hb) $$ [HS]
    · iexact HS
    iintro HS
    iapply (step_load m K c 27 4 ((show ∀ c, ((4 : Fin 16), (3 : Fin 4)) ∈ (sg c 27).A by decide +kernel) c) _ (unit_sub 4 _ _ _ (by decide))) $$ [HS]
    · iexact HS
    iintro HS
    rw [wp_ret]
    imodintro
    iapply (at_eq Q (a := v) ?_)
    · refine hv.symm.trans ?_; show ev m c (k0_part20_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v33 v44 v59) = _; unfold k0_part20_skel; simp only [hc, dite_true, dite_false, if_true, if_false]; rfl
    iapply Hk
    iexact HS

theorem run21 (v118 : FVec F S1024x256 .bf16) (v131 : IVec S1024x32 32) (v146 : FVec F S1024x32 .f32) (v600 : FVec F S1024x512 .f32) (v630 : BitVec 32) (v632 : FVec F S256x512 .bf16) {Q : (FVec F S1024x512 .f32) → sProp 𝕄} (v : FVec F S1024x512 .f32) (hv : ev m c (q21 v118 v131 v146 v600 v630 v632) = v) :
    iprop(St m K c 27)
      ⊢ iprop((St m K c 27 -∗ Q v)
          -∗ wp frame (wpE (defs₀ (F := F)) 𝒱₀ (c : Thread nD τ) none) Set.univ (q21 v118 v131 v146 v600 v630 v632) Q) := by
  rw [show q21 (F := F) v118 v131 v146 v600 v630 v632 = k0_part21_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v600 v630 v632 from rfl]
  unfold k0_part21_skel
  simp only [Prog.lift, Prog.bind_op, Prog.bind_ret, Prog.pure_eq_ret]
  iintro HS Hk
  iapply (step_load m K c 27 4 ((show ∀ c, ((4 : Fin 16), (3 : Fin 4)) ∈ (sg c 27).A by decide +kernel) c) _ (unit_sub 4 _ _ _ (by decide))) $$ [HS]
  · iexact HS
  iintro HS
  rw [wp_ret]
  imodintro
  iapply (at_eq Q (a := v) ?_)
  · refine hv.symm.trans ?_; rfl
  iapply Hk
  iexact HS

theorem run22 (v5 : BitVec 32) (v19 : BitVec 32) (v44 : BitVec 1) (v59 : BitVec 32) {Q : (Σ' (v695 : BitVec 32), FVec F S256x512 .bf16) → sProp 𝕄} (v : Σ' (v695 : BitVec 32), FVec F S256x512 .bf16) (hv : ev m c (q22 c v5 v19 v44 v59) = v) :
    iprop(St m K c 27)
      ⊢ iprop((St m K c 30 -∗ Q v)
          -∗ wp frame (wpE (defs₀ (F := F)) 𝒱₀ (c : Thread nD τ) none) Set.univ (q22 c v5 v19 v44 v59) Q) := by
  rw [show q22 (F := F) c v5 v19 v44 v59 = k0_part22_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59 from rfl]
  unfold k0_part22_skel
  simp only [Prog.lift, Prog.bind_op, Prog.bind_ret, Prog.pure_eq_ret]
  iintro HS Hk
  iapply (step_sw m K c 27 7 rfl 12 14) $$ [HS]
  · iexact HS
  iintro HS
  iapply (step_rw m K c 28 7 rfl 14 12) $$ [HS]
  · iexact HS
  iintro HS
  by_cases hb : evn c = false
  · have hc : k0_cond8 c = 1#1 := (cond8_iff c).mpr hb
    simp only [dif_pos hc, Prog.lift, Prog.bind_op, Prog.bind_ret, Prog.pure_eq_ret]
    iapply (step_sendIf m K c _ 29 13 false rfl hb 12 6 (dev19_eq c hc)
      ((show ∀ c, evn c = false → (12 : Fin 16) = srcH 13 c by decide +kernel) c hb) ((show ∀ c, evn c = false → (6 : Fin 16) = lndH 13 (tgt (chain 13) c) by decide +kernel) c hb)) $$ [HS]
    · iexact HS
    iintro HS
    iapply (step_load m K c 30 12 ((show ∀ c, ((12 : Fin 16), (3 : Fin 4)) ∈ (sg c 30).A by decide +kernel) c) _ (unit_sub 12 _ _ _ (by decide))) $$ [HS]
    · iexact HS
    iintro HS
    rw [wp_ret]
    imodintro
    iapply (at_eq Q (a := v) ?_)
    · refine hv.symm.trans ?_; show ev m c (k0_part22_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59) = _; unfold k0_part22_skel; simp only [hc, dite_true, dite_false, if_true, if_false]; rfl
    iapply Hk
    iexact HS
  · have hc : ¬k0_cond8 c = 1#1 := fun h => hb ((cond8_iff c).mp h)
    simp only [dif_neg hc, Prog.lift, Prog.bind_op, Prog.bind_ret, Prog.pure_eq_ret]
    iapply (step_skip m K c 29 13 false rfl hb) $$ [HS]
    · iexact HS
    iintro HS
    iapply (step_load m K c 30 12 ((show ∀ c, ((12 : Fin 16), (3 : Fin 4)) ∈ (sg c 30).A by decide +kernel) c) _ (unit_sub 12 _ _ _ (by decide))) $$ [HS]
    · iexact HS
    iintro HS
    rw [wp_ret]
    imodintro
    iapply (at_eq Q (a := v) ?_)
    · refine hv.symm.trans ?_; show ev m c (k0_part22_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v44 v59) = _; unfold k0_part22_skel; simp only [hc, dite_true, dite_false, if_true, if_false]; rfl
    iapply Hk
    iexact HS

theorem run23 (v118 : FVec F S1024x256 .bf16) (v131 : IVec S1024x32 32) (v146 : FVec F S1024x32 .f32) (v664 : FVec F S1024x512 .f32) (v695 : BitVec 32) (v697 : FVec F S256x512 .bf16) {Q : (FVec F S1024x512 .f32) → sProp 𝕄} (v : FVec F S1024x512 .f32) (hv : ev m c (q23 v118 v131 v146 v664 v695 v697) = v) :
    iprop(St m K c 30)
      ⊢ iprop((St m K c 30 -∗ Q v)
          -∗ wp frame (wpE (defs₀ (F := F)) 𝒱₀ (c : Thread nD τ) none) Set.univ (q23 v118 v131 v146 v664 v695 v697) Q) := by
  rw [show q23 (F := F) v118 v131 v146 v664 v695 v697 = k0_part23_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v664 v695 v697 from rfl]
  unfold k0_part23_skel
  simp only [Prog.lift, Prog.bind_op, Prog.bind_ret, Prog.pure_eq_ret]
  iintro HS Hk
  iapply (step_load m K c 30 12 ((show ∀ c, ((12 : Fin 16), (3 : Fin 4)) ∈ (sg c 30).A by decide +kernel) c) _ (unit_sub 12 _ _ _ (by decide))) $$ [HS]
  · iexact HS
  iintro HS
  rw [wp_ret]
  imodintro
  iapply (at_eq Q (a := v) ?_)
  · refine hv.symm.trans ?_; rfl
  iapply Hk
  iexact HS

theorem run24 (v5 : BitVec 32) (v19 : BitVec 32) (v33 : BitVec 32) {Q : (Σ' (v756 : BitVec 32) (v757 : BitVec 32) (v758 : BitVec 1), BitVec 1) → sProp 𝕄} (v : Σ' (v756 : BitVec 32) (v757 : BitVec 32) (v758 : BitVec 1), BitVec 1) (hv : ev m c (q24 c v5 v19 v33) = v) :
    iprop(St m K c 30)
      ⊢ iprop((St m K c 33 -∗ Q v)
          -∗ wp frame (wpE (defs₀ (F := F)) 𝒱₀ (c : Thread nD τ) none) Set.univ (q24 c v5 v19 v33) Q) := by
  rw [show q24 (F := F) c v5 v19 v33 = k0_part24_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v33 from rfl]
  unfold k0_part24_skel
  simp only [Prog.lift, Prog.bind_op, Prog.bind_ret, Prog.pure_eq_ret]
  iintro HS Hk
  iapply (step_sw m K c 30 3 rfl 5 3) $$ [HS]
  · iexact HS
  iintro HS
  iapply (step_rw m K c 31 3 rfl 3 5) $$ [HS]
  · iexact HS
  iintro HS
  iapply (step_send m K c _ 32 4 rfl 5 7 (dev20_eq c)
    ((show ∀ c, (5 : Fin 16) = srcH 4 c by decide +kernel) c) ((show ∀ c, (7 : Fin 16) = lndH 4 (tgt (chain 4) c) by decide +kernel) c)) $$ [HS]
  · iexact HS
  iintro HS
  rw [wp_ret]
  imodintro
  iapply (at_eq Q (a := v) ?_)
  · refine hv.symm.trans ?_; rfl
  iapply Hk
  iexact HS

theorem run25 (v118 : FVec F S1024x256 .bf16) (v131 : IVec S1024x32 32) (v146 : FVec F S1024x32 .f32) (v756 : BitVec 32) (v757 : BitVec 32) (v758 : BitVec 1) (v759 : BitVec 1) {Q : (Σ' (v772 : FVec F S512x512 .bf16) (v785 : FVec F S1024x256 .bf16), FVec F S1024x256 .f32) → sProp 𝕄} (v : Σ' (v772 : FVec F S512x512 .bf16) (v785 : FVec F S1024x256 .bf16), FVec F S1024x256 .f32) (hv : ev m c (q25 v118 v131 v146 v756 v757 v758 v759) = v) :
    iprop(St m K c 33)
      ⊢ iprop((St m K c 33 -∗ Q v)
          -∗ wp frame (wpE (defs₀ (F := F)) 𝒱₀ (c : Thread nD τ) none) Set.univ (q25 v118 v131 v146 v756 v757 v758 v759) Q) := by
  rw [show q25 (F := F) v118 v131 v146 v756 v757 v758 v759 = k0_part25_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v756 v757 v758 v759 from rfl]
  unfold k0_part25_skel
  simp only [Prog.lift, Prog.bind_op, Prog.bind_ret, Prog.pure_eq_ret]
  iintro HS Hk
  iapply (step_load m K c 33 5 ((show ∀ c, ((5 : Fin 16), (3 : Fin 4)) ∈ (sg c 33).A by decide +kernel) c) _ (unit_sub 5 _ _ _ (by decide))) $$ [HS]
  · iexact HS
  iintro HS
  iapply (step_load m K c 33 5 ((show ∀ c, ((5 : Fin 16), (3 : Fin 4)) ∈ (sg c 33).A by decide +kernel) c) _ (unit_sub 5 _ _ _ (by decide))) $$ [HS]
  · iexact HS
  iintro HS
  rw [wp_ret]
  imodintro
  iapply (at_eq Q (a := v) ?_)
  · refine hv.symm.trans ?_; rfl
  iapply Hk
  iexact HS

theorem run26 (v19 : BitVec 32) (v33 : BitVec 32) (v729 : FVec F S1024x512 .f32) (v772 : FVec F S512x512 .bf16) (v785 : FVec F S1024x256 .bf16) (v797 : FVec F S1024x256 .f32) {Q : (FVec F S1024x512 .f32) → sProp 𝕄} (v : FVec F S1024x512 .f32) (hv : ev m c (q26 v19 v33 v729 v772 v785 v797) = v) :
    iprop(St m K c 33)
      ⊢ iprop((St m K c 35 -∗ Q v)
          -∗ wp frame (wpE (defs₀ (F := F)) 𝒱₀ (c : Thread nD τ) none) Set.univ (q26 v19 v33 v729 v772 v785 v797) Q) := by
  rw [show q26 (F := F) v19 v33 v729 v772 v785 v797 = k0_part26_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v19 v33 v729 v772 v785 v797 from rfl]
  unfold k0_part26_skel
  simp only [Prog.lift, Prog.bind_op, Prog.bind_ret, Prog.pure_eq_ret]
  iintro HS Hk
  iapply (step_sw m K c 33 8 rfl 13 15) $$ [HS]
  · iexact HS
  iintro HS
  iapply (step_rw m K c 34 8 rfl 15 13) $$ [HS]
  · iexact HS
  iintro HS
  rw [wp_ret]
  imodintro
  iapply (at_eq Q (a := v) ?_)
  · refine hv.symm.trans ?_; rfl
  iapply Hk
  iexact HS

theorem run27 (v5 : BitVec 32) (v118 : FVec F S1024x256 .bf16) (v131 : IVec S1024x32 32) (v146 : FVec F S1024x32 .f32) {Q : (Σ' (v839 : BitVec 32) (v844 : FVec F S512x512 .bf16) (v854 : FVec F S1024x256 .f32), FVec F S1024x256 .f32) → sProp 𝕄} (v : Σ' (v839 : BitVec 32) (v844 : FVec F S512x512 .bf16) (v854 : FVec F S1024x256 .f32), FVec F S1024x256 .f32) (hv : ev m c (q27 c v5 v118 v131 v146) = v) :
    iprop(St m K c 35)
      ⊢ iprop((St m K c 36 -∗ Q v)
          -∗ wp frame (wpE (defs₀ (F := F)) 𝒱₀ (c : Thread nD τ) none) Set.univ (q27 c v5 v118 v131 v146) Q) := by
  rw [show q27 (F := F) c v5 v118 v131 v146 = k0_part27_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v118 v131 v146 from rfl]
  unfold k0_part27_skel
  simp only [Prog.lift, Prog.bind_op, Prog.bind_ret, Prog.pure_eq_ret]
  iintro HS Hk
  iapply (step_send m K c _ 35 9 rfl 13 11 (dev21_eq c)
    ((show ∀ c, (13 : Fin 16) = srcH 9 c by decide +kernel) c) ((show ∀ c, (11 : Fin 16) = lndH 9 (tgt (chain 9) c) by decide +kernel) c)) $$ [HS]
  · iexact HS
  iintro HS
  iapply (step_load m K c 36 13 ((show ∀ c, ((13 : Fin 16), (3 : Fin 4)) ∈ (sg c 36).A by decide +kernel) c) _ (unit_sub 13 _ _ _ (by decide))) $$ [HS]
  · iexact HS
  iintro HS
  iapply (step_load m K c 36 13 ((show ∀ c, ((13 : Fin 16), (3 : Fin 4)) ∈ (sg c 36).A by decide +kernel) c) _ (unit_sub 13 _ _ _ (by decide))) $$ [HS]
  · iexact HS
  iintro HS
  rw [wp_ret]
  imodintro
  iapply (at_eq Q (a := v) ?_)
  · refine hv.symm.trans ?_; rfl
  iapply Hk
  iexact HS

theorem run28 (v59 : BitVec 32) (v118 : FVec F S1024x256 .bf16) (v131 : IVec S1024x32 32) (v146 : FVec F S1024x32 .f32) (v801 : FVec F S1024x512 .f32) (v839 : BitVec 32) (v844 : FVec F S512x512 .bf16) (v854 : FVec F S1024x256 .f32) (v855 : FVec F S1024x256 .f32) {Q : (FVec F S1024x512 .f32) → sProp 𝕄} (v : FVec F S1024x512 .f32) (hv : ev m c (q28 v59 v118 v131 v146 v801 v839 v844 v854 v855) = v) :
    iprop(St m K c 36)
      ⊢ iprop((St m K c 37 -∗ Q v)
          -∗ wp frame (wpE (defs₀ (F := F)) 𝒱₀ (c : Thread nD τ) none) Set.univ (q28 v59 v118 v131 v146 v801 v839 v844 v854 v855) Q) := by
  rw [show q28 (F := F) v59 v118 v131 v146 v801 v839 v844 v854 v855 = k0_part28_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v59 v118 v131 v146 v801 v839 v844 v854 v855 from rfl]
  unfold k0_part28_skel
  simp only [Prog.lift, Prog.bind_op, Prog.bind_ret, Prog.pure_eq_ret]
  iintro HS Hk
  iapply (step_sw m K c 36 11 rfl 8 2) $$ [HS]
  · iexact HS
  iintro HS
  rw [wp_ret]
  imodintro
  iapply (at_eq Q (a := v) ?_)
  · refine hv.symm.trans ?_; rfl
  iapply Hk
  iexact HS

theorem run29 (v5 : BitVec 32) (v118 : FVec F S1024x256 .bf16) (v131 : IVec S1024x32 32) (v146 : FVec F S1024x32 .f32) {Q : (Σ' (v906 : FVec F S512x512 .bf16) (v919 : FVec F S1024x256 .bf16), BitVec 32) → sProp 𝕄} (v : Σ' (v906 : FVec F S512x512 .bf16) (v919 : FVec F S1024x256 .bf16), BitVec 32) (hv : ev m c (q29 v5 v118 v131 v146) = v) :
    iprop(St m K c 37)
      ⊢ iprop((St m K c 38 -∗ Q v)
          -∗ wp frame (wpE (defs₀ (F := F)) 𝒱₀ (c : Thread nD τ) none) Set.univ (q29 v5 v118 v131 v146) Q) := by
  rw [show q29 (F := F) v5 v118 v131 v146 = k0_part29_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146 from rfl]
  unfold k0_part29_skel
  simp only [Prog.lift, Prog.bind_op, Prog.bind_ret, Prog.pure_eq_ret]
  iintro HS Hk
  iapply (step_rw m K c 37 11 rfl 2 8) $$ [HS]
  · iexact HS
  iintro HS
  iapply (step_load m K c 38 8 ((show ∀ c, ((8 : Fin 16), (3 : Fin 4)) ∈ (sg c 38).A by decide +kernel) c) _ (unit_sub 8 _ _ _ (by decide))) $$ [HS]
  · iexact HS
  iintro HS
  iapply (step_load m K c 38 8 ((show ∀ c, ((8 : Fin 16), (3 : Fin 4)) ∈ (sg c 38).A by decide +kernel) c) _ (unit_sub 8 _ _ _ (by decide))) $$ [HS]
  · iexact HS
  iintro HS
  rw [wp_ret]
  imodintro
  iapply (at_eq Q (a := v) ?_)
  · refine hv.symm.trans ?_; rfl
  iapply Hk
  iexact HS

theorem run30 (v59 : BitVec 32) (v118 : FVec F S1024x256 .bf16) (v131 : IVec S1024x32 32) (v146 : FVec F S1024x32 .f32) (v873 : FVec F S1024x512 .f32) (v906 : FVec F S512x512 .bf16) (v919 : FVec F S1024x256 .bf16) (v920 : BitVec 32) {Q : (Σ' (v935 : FVec F S1024x512 .f32), BitVec 32) → sProp 𝕄} (v : Σ' (v935 : FVec F S1024x512 .f32), BitVec 32) (hv : ev m c (q30 v59 v118 v131 v146 v873 v906 v919 v920) = v) :
    iprop(St m K c 38)
      ⊢ iprop((St m K c 40 -∗ Q v)
          -∗ wp frame (wpE (defs₀ (F := F)) 𝒱₀ (c : Thread nD τ) none) Set.univ (q30 v59 v118 v131 v146 v873 v906 v919 v920) Q) := by
  rw [show q30 (F := F) v59 v118 v131 v146 v873 v906 v919 v920 = k0_part30_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v59 v118 v131 v146 v873 v906 v919 v920 from rfl]
  unfold k0_part30_skel
  simp only [Prog.lift, Prog.bind_op, Prog.bind_ret, Prog.pure_eq_ret]
  iintro HS Hk
  iapply (step_sw m K c 38 12 rfl 9 3) $$ [HS]
  · iexact HS
  iintro HS
  iapply (step_rw m K c 39 12 rfl 3 9) $$ [HS]
  · iexact HS
  iintro HS
  rw [wp_ret]
  imodintro
  iapply (at_eq Q (a := v) ?_)
  · refine hv.symm.trans ?_; rfl
  iapply Hk
  iexact HS

theorem run31 (v5 : BitVec 32) (v118 : FVec F S1024x256 .bf16) (v131 : IVec S1024x32 32) (v146 : FVec F S1024x32 .f32) (c4_i32_785 : BitVec 32) {Q : (Σ' (v968 : FVec F S512x512 .bf16) (v981 : FVec F S1024x256 .bf16), BitVec 32) → sProp 𝕄} (v : Σ' (v968 : FVec F S512x512 .bf16) (v981 : FVec F S1024x256 .bf16), BitVec 32) (hv : ev m c (q31 v5 v118 v131 v146 c4_i32_785) = v) :
    iprop(St m K c 40)
      ⊢ iprop((St m K c 40 -∗ Q v)
          -∗ wp frame (wpE (defs₀ (F := F)) 𝒱₀ (c : Thread nD τ) none) Set.univ (q31 v5 v118 v131 v146 c4_i32_785) Q) := by
  rw [show q31 (F := F) v5 v118 v131 v146 c4_i32_785 = k0_part31_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v118 v131 v146 c4_i32_785 from rfl]
  unfold k0_part31_skel
  simp only [Prog.lift, Prog.bind_op, Prog.bind_ret, Prog.pure_eq_ret]
  iintro HS Hk
  iapply (step_load m K c 40 9 ((show ∀ c, ((9 : Fin 16), (3 : Fin 4)) ∈ (sg c 40).A by decide +kernel) c) _ (unit_sub 9 _ _ _ (by decide))) $$ [HS]
  · iexact HS
  iintro HS
  iapply (step_load m K c 40 9 ((show ∀ c, ((9 : Fin 16), (3 : Fin 4)) ∈ (sg c 40).A by decide +kernel) c) _ (unit_sub 9 _ _ _ (by decide))) $$ [HS]
  · iexact HS
  iintro HS
  rw [wp_ret]
  imodintro
  iapply (at_eq Q (a := v) ?_)
  · refine hv.symm.trans ?_; rfl
  iapply Hk
  iexact HS

theorem run32 (v5 : BitVec 32) (v19 : BitVec 32) (v118 : FVec F S1024x256 .bf16) (v131 : IVec S1024x32 32) (v146 : FVec F S1024x32 .f32) (v935 : FVec F S1024x512 .f32) (v968 : FVec F S512x512 .bf16) (v981 : FVec F S1024x256 .bf16) (v984 : BitVec 32) {Q : (Σ' (v997 : FVec F S1024x512 .f32) (v1012 : BitVec 32) (c8_i32_838 : BitVec 32), BitVec 1) → sProp 𝕄} (v : Σ' (v997 : FVec F S1024x512 .f32) (v1012 : BitVec 32) (c8_i32_838 : BitVec 32), BitVec 1) (hv : ev m c (q32 v5 v19 v118 v131 v146 v935 v968 v981 v984) = v) :
    iprop(St m K c 40)
      ⊢ iprop((St m K c 42 -∗ Q v)
          -∗ wp frame (wpE (defs₀ (F := F)) 𝒱₀ (c : Thread nD τ) none) Set.univ (q32 v5 v19 v118 v131 v146 v935 v968 v981 v984) Q) := by
  rw [show q32 (F := F) v5 v19 v118 v131 v146 v935 v968 v981 v984 = k0_part32_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v19 v118 v131 v146 v935 v968 v981 v984 from rfl]
  unfold k0_part32_skel
  simp only [Prog.lift, Prog.bind_op, Prog.bind_ret, Prog.pure_eq_ret]
  iintro HS Hk
  iapply (step_sw m K c 40 4 rfl 7 5) $$ [HS]
  · iexact HS
  iintro HS
  iapply (step_rw m K c 41 4 rfl 5 7) $$ [HS]
  · iexact HS
  iintro HS
  rw [wp_ret]
  imodintro
  iapply (at_eq Q (a := v) ?_)
  · refine hv.symm.trans ?_; rfl
  iapply Hk
  iexact HS

theorem run33 (v118 : FVec F S1024x256 .bf16) (v131 : IVec S1024x32 32) (v146 : FVec F S1024x32 .f32) (v1012 : BitVec 32) (c8_i32_838 : BitVec 32) (v1013 : BitVec 1) {Q : (Σ' (v1030 : FVec F S512x512 .bf16) (v1043 : FVec F S1024x256 .bf16) (v1048 : IVec S1024x32 1), FVec F S1024x32 .f32) → sProp 𝕄} (v : Σ' (v1030 : FVec F S512x512 .bf16) (v1043 : FVec F S1024x256 .bf16) (v1048 : IVec S1024x32 1), FVec F S1024x32 .f32) (hv : ev m c (q33 v118 v131 v146 v1012 c8_i32_838 v1013) = v) :
    iprop(St m K c 42)
      ⊢ iprop((St m K c 42 -∗ Q v)
          -∗ wp frame (wpE (defs₀ (F := F)) 𝒱₀ (c : Thread nD τ) none) Set.univ (q33 v118 v131 v146 v1012 c8_i32_838 v1013) Q) := by
  rw [show q33 (F := F) v118 v131 v146 v1012 c8_i32_838 v1013 = k0_part33_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v1012 c8_i32_838 v1013 from rfl]
  unfold k0_part33_skel
  simp only [Prog.lift, Prog.bind_op, Prog.bind_ret, Prog.pure_eq_ret]
  iintro HS Hk
  iapply (step_load m K c 42 7 ((show ∀ c, ((7 : Fin 16), (3 : Fin 4)) ∈ (sg c 42).A by decide +kernel) c) _ (unit_sub 7 _ _ _ (by decide))) $$ [HS]
  · iexact HS
  iintro HS
  iapply (step_load m K c 42 7 ((show ∀ c, ((7 : Fin 16), (3 : Fin 4)) ∈ (sg c 42).A by decide +kernel) c) _ (unit_sub 7 _ _ _ (by decide))) $$ [HS]
  · iexact HS
  iintro HS
  rw [wp_ret]
  imodintro
  iapply (at_eq Q (a := v) ?_)
  · refine hv.symm.trans ?_; rfl
  iapply Hk
  iexact HS

theorem run34 (v5 : BitVec 32) (v33 : BitVec 32) (v118 : FVec F S1024x256 .bf16) (v146 : FVec F S1024x32 .f32) (v997 : FVec F S1024x512 .f32) (v1030 : FVec F S512x512 .bf16) (v1043 : FVec F S1024x256 .bf16) (v1048 : IVec S1024x32 1) (v1049 : FVec F S1024x32 .f32) {Q : (Σ' (v1059 : FVec F S1024x512 .f32) (v1076 : BitVec 32) (v1077 : BitVec 32), BitVec 32) → sProp 𝕄} (v : Σ' (v1059 : FVec F S1024x512 .f32) (v1076 : BitVec 32) (v1077 : BitVec 32), BitVec 32) (hv : ev m c (q34 v5 v33 v118 v146 v997 v1030 v1043 v1048 v1049) = v) :
    iprop(St m K c 42)
      ⊢ iprop((St m K c 44 -∗ Q v)
          -∗ wp frame (wpE (defs₀ (F := F)) 𝒱₀ (c : Thread nD τ) none) Set.univ (q34 v5 v33 v118 v146 v997 v1030 v1043 v1048 v1049) Q) := by
  rw [show q34 (F := F) v5 v33 v118 v146 v997 v1030 v1043 v1048 v1049 = k0_part34_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v33 v118 v146 v997 v1030 v1043 v1048 v1049 from rfl]
  unfold k0_part34_skel
  simp only [Prog.lift, Prog.bind_op, Prog.bind_ret, Prog.pure_eq_ret]
  iintro HS Hk
  iapply (step_sw m K c 42 9 rfl 11 13) $$ [HS]
  · iexact HS
  iintro HS
  iapply (step_rw m K c 43 9 rfl 13 11) $$ [HS]
  · iexact HS
  iintro HS
  rw [wp_ret]
  imodintro
  iapply (at_eq Q (a := v) ?_)
  · refine hv.symm.trans ?_; rfl
  iapply Hk
  iexact HS

theorem run35 (v118 : FVec F S1024x256 .bf16) (v131 : IVec S1024x32 32) (v146 : FVec F S1024x32 .f32) (v1076 : BitVec 32) (v1077 : BitVec 32) (c0_i32_893 : BitVec 32) {Q : (Σ' (v1092 : FVec F S512x512 .bf16) (v1105 : FVec F S1024x256 .bf16), FVec F S1024x1 .f32) → sProp 𝕄} (v : Σ' (v1092 : FVec F S512x512 .bf16) (v1105 : FVec F S1024x256 .bf16), FVec F S1024x1 .f32) (hv : ev m c (q35 v118 v131 v146 v1076 v1077 c0_i32_893) = v) :
    iprop(St m K c 44)
      ⊢ iprop((St m K c 44 -∗ Q v)
          -∗ wp frame (wpE (defs₀ (F := F)) 𝒱₀ (c : Thread nD τ) none) Set.univ (q35 v118 v131 v146 v1076 v1077 c0_i32_893) Q) := by
  rw [show q35 (F := F) v118 v131 v146 v1076 v1077 c0_i32_893 = k0_part35_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v118 v131 v146 v1076 v1077 c0_i32_893 from rfl]
  unfold k0_part35_skel
  simp only [Prog.lift, Prog.bind_op, Prog.bind_ret, Prog.pure_eq_ret]
  iintro HS Hk
  iapply (step_load m K c 44 11 ((show ∀ c, ((11 : Fin 16), (3 : Fin 4)) ∈ (sg c 44).A by decide +kernel) c) _ (unit_sub 11 _ _ _ (by decide))) $$ [HS]
  · iexact HS
  iintro HS
  iapply (step_load m K c 44 11 ((show ∀ c, ((11 : Fin 16), (3 : Fin 4)) ∈ (sg c 44).A by decide +kernel) c) _ (unit_sub 11 _ _ _ (by decide))) $$ [HS]
  · iexact HS
  iintro HS
  rw [wp_ret]
  imodintro
  iapply (at_eq Q (a := v) ?_)
  · refine hv.symm.trans ?_; rfl
  iapply Hk
  iexact HS

theorem run36 (v5 : BitVec 32) (v44 : BitVec 1) (v59 : BitVec 32) (v118 : FVec F S1024x256 .bf16) (v1059 : FVec F S1024x512 .f32) (v1092 : FVec F S512x512 .bf16) (v1105 : FVec F S1024x256 .bf16) (v1114 : FVec F S1024x1 .f32) {Q : (Σ' (v1121 : FVec F S1024x512 .f32) (v1136 : BitVec 32) (v1139 : BitVec 32) (v1140 : BitVec 32) (v1141 : BitVec 1), BitVec 32) → sProp 𝕄} (v : Σ' (v1121 : FVec F S1024x512 .f32) (v1136 : BitVec 32) (v1139 : BitVec 32) (v1140 : BitVec 32) (v1141 : BitVec 1), BitVec 32) (hv : ev m c (q36 v5 v44 v59 v118 v1059 v1092 v1105 v1114) = v) :
    iprop(St m K c 44)
      ⊢ iprop((St m K c 46 -∗ Q v)
          -∗ wp frame (wpE (defs₀ (F := F)) 𝒱₀ (c : Thread nD τ) none) Set.univ (q36 v5 v44 v59 v118 v1059 v1092 v1105 v1114) Q) := by
  rw [show q36 (F := F) v5 v44 v59 v118 v1059 v1092 v1105 v1114 = k0_part36_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 v5 v44 v59 v118 v1059 v1092 v1105 v1114 from rfl]
  unfold k0_part36_skel
  simp only [Prog.lift, Prog.bind_op, Prog.bind_ret, Prog.pure_eq_ret]
  iintro HS Hk
  iapply (step_sw m K c 44 13 rfl 6 4) $$ [HS]
  · iexact HS
  iintro HS
  iapply (step_rw m K c 45 13 rfl 4 6) $$ [HS]
  · iexact HS
  iintro HS
  rw [wp_ret]
  imodintro
  iapply (at_eq Q (a := v) ?_)
  · refine hv.symm.trans ?_; rfl
  iapply Hk
  iexact HS

theorem run37 (v118 : FVec F S1024x256 .bf16) (v131 : IVec S1024x32 32) (v146 : FVec F S1024x32 .f32) (v1121 : FVec F S1024x512 .f32) (v1136 : BitVec 32) (v1139 : BitVec 32) (v1140 : BitVec 32) (v1141 : BitVec 1) (c0_i32_946 : BitVec 32) {Q : (FVec F S1024x512 .f32) → sProp 𝕄} (v : FVec F S1024x512 .f32) (hv : ev m c (q37 c v118 v131 v146 v1121 v1136 v1139 v1140 v1141 c0_i32_946) = v) :
    iprop(St m K c 46)
      ⊢ iprop((St m K c 46 -∗ Q v)
          -∗ wp frame (wpE (defs₀ (F := F)) 𝒱₀ (c : Thread nD τ) none) Set.univ (q37 c v118 v131 v146 v1121 v1136 v1139 v1140 v1141 c0_i32_946) Q) := by
  rw [show q37 (F := F) c v118 v131 v146 v1121 v1136 v1139 v1140 v1141 c0_i32_946 = k0_part37_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v118 v131 v146 v1121 v1136 v1139 v1140 v1141 c0_i32_946 from rfl]
  unfold k0_part37_skel
  simp only [Prog.lift, Prog.bind_op, Prog.bind_ret, Prog.pure_eq_ret]
  iintro HS Hk
  iapply (step_load m K c 46 (lndH 13 c) ((show ∀ c, (lndH 13 c, (3 : Fin 4)) ∈ (sg c 46).A by decide +kernel) c) _
    (unit_sub (lndH 13 c) _ _ _ ((show ∀ c, (slotOf (lndH 13 c)).val ≤ k0_off1 c 3#32 5#32 0 ∧ k0_off1 c 3#32 5#32 0 + 1 ≤ (slotOf (lndH 13 c)).val + 1 ∧ rowOf (lndH 13 c) ≤ k0_off1 c 3#32 5#32 1 ∧ k0_off1 c 3#32 5#32 1 + 2 ≤ rowOf (lndH 13 c) + 2 by decide +kernel) c))) $$ [HS]
  · iexact HS
  iintro HS
  rw [wp_ret]
  imodintro
  iapply (at_eq Q (a := v) ?_)
  · refine hv.symm.trans ?_; rfl
  iapply Hk
  iexact HS

end Cert.MoeProof

end
-- ==== Proof.Body.lean ====
/-
# One device's body

The barrier: a device hands the halves its three neighbours will fill to them and gets the halves it is to fill. Then
the parts one after another, and what the device holds at the end.
-/
module

public import proofs.«01_k».proof.Proof.Parts
public import Idealize.ShloMosaic.Lib.Ring

@[expose] public section

set_option maxRecDepth 65536

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sharing out the scratch buffer -/

theorem chains : (Finset.univ : Finset (Fin 14)) = (Finset.univ.filter fun j => chain j = 0) ∪ ((Finset.univ.filter fun j => chain j = 1) ∪ (Finset.univ.filter fun j => chain j = 2)) := by
  decide +kernel
theorem by_chain (Φ : Fin 14 → sProp 𝕄) :
    bigSep Finset.univ Φ = iprop(bigSep (Finset.univ.filter fun j => chain j = 0) Φ ∗ bigSep (Finset.univ.filter fun j => chain j = 1) Φ
      ∗ bigSep (Finset.univ.filter fun j => chain j = 2) Φ) := by
  refine (congrArg (fun s => bigSep s Φ) chains).trans ?_
  rw [sep_union _ (by decide +kernel), sep_union _ (by decide +kernel)]

theorem lnd_inj (c : Dev nD) : Function.Injective fun j : Fin 14 => lndH j c := by
  revert c; decide +kernel
theorem lnd_cover (c : Dev nD) : (Finset.univ : Finset (Fin 16)) = insert 0 (insert 1 (Finset.univ.map ⟨fun j : Fin 14 => lndH j c, lnd_inj c⟩)) := by
  revert c; decide +kernel
theorem lnd_zero (c : Dev nD) : (0 : Fin 16) ∉ insert 1 (Finset.univ.map ⟨fun j : Fin 14 => lndH j c, lnd_inj c⟩) := by
  revert c; decide +kernel
theorem lnd_one (c : Dev nD) : (1 : Fin 16) ∉ Finset.univ.map ⟨fun j : Fin 14 => lndH j c, lnd_inj c⟩ := by
  revert c; decide +kernel

/-- The whole buffer: the two halves of slot 0, and the halves the device's neighbours fill, by chain. -/
theorem shared_out (c : Dev nD) (f : cc0_scratch0.ty.Contents (Elt F)) :
    (((c : Thread nD τ).loc cc0_scratch0) ↦{fullShare} f : sProp 𝕄)
      ⊢ iprop(half c 0 fullShare f ∗ half c 1 fullShare f ∗ barPay (tgt 1 c) 0 ∗ barPay (tgt 0 c) 1 ∗ barPay (tgt 2 c) 2) := by
  have e1 : (((c : Thread nD τ).loc cc0_scratch0) ↦{fullShare} f : sProp 𝕄) = bigSep Finset.univ fun h : Fin 16 => half c h fullShare f :=
    Ring.pointsTo_blocks (ℓ := (c : Thread nD τ).loc cc0_scratch0) (fun h : Fin 16 => (hR h).set) hv_disjoint hv_cover f
  have e3 : bigSep (Finset.univ.map ⟨fun j : Fin 14 => lndH j c, lnd_inj c⟩) (fun h => (half c h fullShare f : sProp 𝕄))
      = bigSep Finset.univ fun j : Fin 14 => half c (lndH j c) fullShare f := bigSep_map _
  have pay : ∀ d : Fin 3, bigSep (Finset.univ.filter fun j : Fin 14 => chain j = d) (fun j => (half c (lndH j c) fullShare f : sProp 𝕄))
      ⊢ barPay (tgt (opp d) c) d := by
    intro d
    unfold barPay
    rw [tgt_opp']
    refine bigSep_mono fun j _ => ?_
    show (half c (lndH j c) fullShare f : sProp 𝕄) ⊢ iprop(∃ f, half c (lndH j c) fullShare f)
    iintro H
    iexists f
    iexact H
  rw [e1, congrArg (fun s => bigSep s fun h : Fin 16 => (half c h fullShare f : sProp 𝕄)) (lnd_cover c), sep_insert _ (lnd_zero c), sep_insert _ (lnd_one c), e3, by_chain]
  iintro ⟨H0, H1, Ha, Hb, Hc⟩
  isplitl [H0]; · iexact H0
  isplitl [H1]; · iexact H1
  isplitl [Ha]
  · iapply (pay 0); iexact Ha
  isplitl [Hb]
  · iapply (pay 1); iexact Hb
  iapply (pay 2); iexact Hc

/-- What the barrier's three payloads are: for every copy the half it fills. -/
theorem bar_rest (c : Dev nD) : (bigSep Finset.univ fun d : Fin 3 => (barPay c d : sProp 𝕄))
    ⊢ bigSep Finset.univ fun j : Fin 14 => iprop(∃ f, half (tgt (chain j) c) (lndH j (tgt (chain j) c)) fullShare f) := by
  have e : ∀ d : Fin 3, (barPay c d : sProp 𝕄) = bigSep (Finset.univ.filter fun j : Fin 14 => chain j = d)
      (fun j => iprop(∃ f, half (tgt (chain j) c) (lndH j (tgt (chain j) c)) fullShare f)) := by
    intro d
    unfold barPay
    refine bigSep_congr fun j hj => ?_
    rw [(Finset.mem_filter.mp hj).2]
  rw [by_chain]
  rw [bigSep_univ_eq_bigSepL [0, 1, 2] (by decide) (by decide), bigSepL_cons_cons, bigSepL_cons_cons, bigSepL_singleton, e 0, e 1, e 2]
  exact Entails.refl _

/-- Slot 0, stored, in quarters. -/
theorem slot0_in (c : Dev nD) : iprop(half c 0 fullShare (full m c) ∗ half c 1 fullShare (full m c)) ⊢ bigSep sg0.A (pc m c) := by
  rw [quarters_pc, quarters_pc, show sg0.A = (Finset.univ.map ⟨fun t : Fin 4 => ((0 : Fin 16), t), fun _ _ h => (Prod.mk.inj h).2⟩)
      ∪ (Finset.univ.map ⟨fun t : Fin 4 => ((1 : Fin 16), t), fun _ _ h => (Prod.mk.inj h).2⟩) by decide +kernel,
    sep_union _ (by decide +kernel)]

/-- All pieces are the whole buffer. -/
theorem whole_out (c : Dev nD) : bigSep Finset.univ (pc m c) ⊢ (((c : Thread nD τ).loc cc0_scratch0) ↦{fullShare} (full m c) : sProp 𝕄) := by
  have e1 : (((c : Thread nD τ).loc cc0_scratch0) ↦{fullShare} (full m c) : sProp 𝕄) = bigSep Finset.univ fun h : Fin 16 => half c h fullShare (full m c) :=
    Ring.pointsTo_blocks (ℓ := (c : Thread nD τ).loc cc0_scratch0) (fun h : Fin 16 => (hR h).set) hv_disjoint hv_cover (full m c)
  rw [e1, bigSep_univ_prod]
  exact bigSep_mono fun h _ => Entails.of_eq (half_quarters c h (full m c)).symm

/-! ## The barrier -/

variable (K : Dev nD × CK → ℕ) (c : Dev nD)

theorem bar_duty (c : Dev nD) (d : Fin 3) : d ∈ (rd (F := F) m).duties (barCell c) 0 := by
  rw [duties_cell m c (.inl ())]; exact Finset.mem_univ _
theorem bar_amount (c : Dev nD) (d : Fin 3) : (rd (F := F) m).amount (barCell c) 0 d = 1 := amount_cell m c (.inl ()) d
theorem bar_payload (c : Dev nD) (d : Fin 3) : (rd (F := F) m).payload (barCell c) 0 d = barPay c d := payload_cell m c (.inl ()) d

/-- The body's first part reads the device's index. -/
theorem run1 {Q : (Σ' (d0 : Dev nD) (v5 : BitVec 32) (v19 : BitVec 32), BitVec 32) → sProp 𝕄} (v) (hv : ev m c q1 = v) :
    Q v ⊢ wp frame (wpE (defs₀ (F := F)) 𝒱₀ (c : Thread nD τ) none) Set.univ q1 Q := by
  subst hv
  rw [show wp frame (wpE (defs₀ (F := F)) 𝒱₀ (c : Thread nD τ) none) Set.univ q1 Q = wp frame (wpE (defs₀ (F := F)) 𝒱₀ (c : Thread nD τ) none) Set.univ
    (k0_part1_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6) Q from rfl]
  generalize hv : ev m c q1 = v
  unfold k0_part1_skel
  simp only [Prog.lift, Prog.bind_op, Prog.bind_ret, Prog.pure_eq_ret, wp_deviceId]
  iintro H
  rw [wp_ret]
  imodintro
  iapply (at_eq Q (a := v) ?_)
  · exact hv.symm.trans rfl
  iexact H

/-- One signal: to the barrier of the device chain `d` leads to, its duty of the opposite chain. -/
theorem signal (d : Fin 3) (O O' : CellTallies nD τ sig Unit) (hO : O = O' + tallyAt (barCell (tgt d c)) () 1) (W : Waits sig Unit)
    {α : Type} {Q : α → sProp 𝕄} {k : PUnit → Prog (TpuEff nD τ sig (Elt F) Λ₀ .tc) α} (t : Dev nD) (ht : t = tgt d c) :
    iprop(records m K ∗ owes (c : Thread nD τ) O W ∗ dutyTok ER (barCell (tgt d c)) 0 (opp d) ∗ barPay (tgt d c) (opp d))
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS (1#32 : BitVec 32).toInt) k) Q) := by
  subst ht
  subst hO
  iintro ⟨#HR, HO, Ht, Hp⟩ Hk
  iapply (Rounds.wp_signal 𝒱₀ ER (rd m) (c : Thread nD τ) none (dst := (tgt d c : Thread nD τ)) (κ := K (tgt d c, .inl ()))
      (d := opp d) (bar_duty m (tgt d c) (opp d)) ((bar_amount m (tgt d c) (opp d)).trans (by decide)) () O' rfl)
    $$ [HO Ht Hp]
  · isplitr; · iapply (inv_at m K (tgt d c, .inl ())); iexact HR
    isplitl [HO]; · iexact HO
    isplitl [Ht]; · iexact Ht
    isplitl [Hp]; · rw [bar_payload]; iexact Hp
    iapply (reached_at m K (tgt d c, .inl ())); iexact HR
  iexact Hk

theorem regroup3 (A B C D : sProp 𝕄) : iprop(A ∗ B ∗ C ∗ D) = iprop((A ∗ B ∗ C) ∗ D) := by
  refine Entails.antisymm ?_ ?_
  · show iprop(A ∗ B ∗ C ∗ D) ⊢ iprop((A ∗ B ∗ C) ∗ D)
    iintro ⟨H1, H2, H3, H4⟩
    isplitl [H1 H2 H3]
    · isplitl [H1]; · iexact H1
      isplitl [H2]; · iexact H2
      iexact H3
    iexact H4
  · show iprop((A ∗ B ∗ C) ∗ D) ⊢ iprop(A ∗ B ∗ C ∗ D)
    iintro ⟨⟨H1, H2, H3⟩, H4⟩
    isplitl [H1]; · iexact H1
    isplitl [H2]; · iexact H2
    isplitl [H3]; · iexact H3
    iexact H4

/-- What a device holds once the barrier is passed and its weights are stored. -/
theorem begin : iprop(records m K ∗ levAts L lv ∗ (∃ W, owes (c : Thread nD τ) (ow c Finset.univ) W)
      ∗ (bigSep Finset.univ fun j => iprop(dutyTok ER (sndCell c j) 0 0 ∗ dutyTok ER (rcvCell (tgt (chain j) c) j) 0 0 ∗ atPos ER (sndCell c j) 0 ∅ 0))
      ∗ (bigSep Finset.univ fun j : Fin 14 => iprop(∃ f, half (tgt (chain j) c) (lndH j (tgt (chain j) c)) fullShare f))
      ∗ bigSep Finset.univ (pend c) ∗ bigSep sg0.A (pc m c)) ⊢ St m K c 0 := by
  have e : (bigSep Finset.univ fun j : Fin 14 => (toSend c j : sProp 𝕄))
      = iprop((bigSep Finset.univ fun j => iprop(dutyTok ER (sndCell c j) 0 0 ∗ dutyTok ER (rcvCell (tgt (chain j) c) j) 0 0 ∗ atPos ER (sndCell c j) 0 ∅ 0))
        ∗ (bigSep Finset.univ fun j : Fin 14 => iprop(∃ f, half (tgt (chain j) c) (lndH j (tgt (chain j) c)) fullShare f))) := by
    refine Eq.trans ?_ (bigSep_sep' _ _ _)
    refine bigSep_congr fun j _ => ?_
    unfold toSend
    exact regroup3 _ _ _ _
  show _ ⊢ StS m K c sg0
  unfold StS
  iintro ⟨#HR, #Hl, HO, HT, Hd, HP, HA⟩
  isplitr
  · isplitr; · iexact HR
    iexact Hl
  isplitl [HO]; · iexact HO
  isplitl [HT Hd]
  · iapply (Entails.of_eq e.symm)
    isplitl [HT]; · iexact HT
    iexact Hd
  isplitr
  · iapply (Entails.of_eq (bigSep_empty (Φ := (inFl c : Fin 14 → sProp 𝕄))).symm); iempintro
  isplitl [HP]; · iexact HP
  isplitl [HA]; · iexact HA
  isplitr
  · iapply (Entails.of_eq (bigSep_empty (Φ := (fun j : Fin 14 => (semVal (sndCell c j) 0 : sProp 𝕄)))).symm); iempintro
  · iapply (Entails.of_eq (bigSep_empty (Φ := (fun j : Fin 14 => (semVal (rcvCell c j) 0 : sProp 𝕄)))).symm); iempintro

/-- Part 2: the signals along chains 1 and 0. -/
theorem run2 (v5 : BitVec 32) (v19 : BitVec 32) (v33 : BitVec 32) {Q : (Σ' (v44 : BitVec 1) (v59 : BitVec 32) (v60 : Sems sig S_), BitVec 32) → sProp 𝕄}
    (v) (hv : ev m c (q2 c v5 v19 v33) = v) (W : Waits sig Unit) :
    iprop(records m K ∗ owes (c : Thread nD τ) (O₀ c) W
        ∗ (dutyTok ER (barCell (tgt 1 c)) 0 (opp 1) ∗ barPay (tgt 1 c) (opp 1)) ∗ (dutyTok ER (barCell (tgt 0 c)) 0 (opp 0) ∗ barPay (tgt 0 c) (opp 0)))
      ⊢ iprop((owes (c : Thread nD τ) (ow c Finset.univ + tallyAt (barCell (tgt 2 c)) () 1) W -∗ Q v)
          -∗ wp frame (wpE (defs₀ (F := F)) 𝒱₀ (c : Thread nD τ) none) Set.univ (q2 c v5 v19 v33) Q) := by
  rw [show q2 (F := F) c v5 v19 v33 = k0_part2_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v33 from rfl]
  unfold k0_part2_skel
  simp only [semSignalWord, Prog.lift, Prog.bind_op, Prog.bind_ret, Prog.pure_eq_ret]
  iintro ⟨#HR, HO, ⟨Ht1, Hp1⟩, ⟨Ht0, Hp0⟩⟩ Hk
  iapply (signal m K c 1 (O₀ c) (ow c Finset.univ + tallyAt (barCell (tgt 2 c)) () 1 + tallyAt (barCell (tgt 0 c)) () 1) rfl W _ (dev1_eq c)) $$ [HO Ht1 Hp1]
  · isplitr; · iexact HR
    isplitl [HO]; · iexact HO
    isplitl [Ht1]; · iexact Ht1
    iexact Hp1
  iintro HO
  iapply (signal m K c 0 _ (ow c Finset.univ + tallyAt (barCell (tgt 2 c)) () 1) rfl W _ (dev2_eq c)) $$ [HO Ht0 Hp0]
  · isplitr; · iexact HR
    isplitl [HO]; · iexact HO
    isplitl [Ht0]; · iexact Ht0
    iexact Hp0
  iintro HO
  rw [wp_ret]
  imodintro
  iapply (at_eq Q (a := v) ?_)
  · refine hv.symm.trans ?_; show ev m c (k0_part2_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v5 v19 v33) = _; rfl
  iapply Hk
  iexact HO

/-- Slot 0 whole is its two halves. -/
theorem slot0_eq (c : Dev nD) (f : cc0_scratch0.ty.Contents (Elt F)) :
    iprop(half c 0 fullShare f ∗ half c 1 fullShare f) ⊣⊢ (((c : Thread nD τ).loc cc0_scratch0)
      ↦[(Rect.unit (s := S8x4x256x512) ![0, 0, 0, 0] S1x4x256x512.size inb_S8x4x256x512_S1x4x256x512_0_0_0_0).set]{fullShare} f : sProp 𝕄) := by
  rw [← slot0_union]
  exact (pointsTo_union (hv_disjoint 0 1 (by decide))).symm

theorem read3 (f : (cc0_stg3_0 : Ref sig .tc).ty.Contents (Elt F)) :
    (Memref.whole cc0_stg3_0 : Memref sig .tc .vmem S4x256x512 .bf16).view.readAt (Elt F)
      (Rect.unit (s := S4x256x512) ![0, 0, 0] S4x256x512.size inb_S4x256x512_S4x256x512_0_0_0).toLoadRect f = f :=
  Memref.readAt_unit_zero (Elt F) cc0_stg3_0 (funext fun a => by fin_cases a <;> rfl) _ f

set_option maxHeartbeats 1600000 in
/-- Part 3: the last signal, the wait for all three neighbours, the store of the device's own weights, the first copy. -/
theorem run3 (v19 : BitVec 32) (v60 : Sems sig S_) (h60 : v60 = SemArray.scalar (sig.barrier 0 rfl)) (v65 : BitVec 32) {Q : PUnit → sProp 𝕄}
    (W : Waits sig Unit) (f : cc0_scratch0.ty.Contents (Elt F)) :
    iprop(records m K ∗ levAts L lv ∗ owes (c : Thread nD τ) (ow c Finset.univ + tallyAt (barCell (tgt 2 c)) () 1) W
        ∗ (dutyTok ER (barCell (tgt 2 c)) 0 (opp 2) ∗ barPay (tgt 2 c) (opp 2))
        ∗ (atPos ER (barCell c) 0 ∅ 0 ∗ cred (tallyAt (barCell c) () 3))
        ∗ (bigSep Finset.univ fun j => iprop(dutyTok ER (sndCell c j) 0 0 ∗ dutyTok ER (rcvCell (tgt (chain j) c) j) 0 0 ∗ atPos ER (sndCell c j) 0 ∅ 0))
        ∗ bigSep Finset.univ (pend c)
        ∗ half c 0 fullShare f ∗ half c 1 fullShare f
        ∗ (((c : Thread nD τ).loc cc0_stg3_0) ↦[Finset.univ]{fullShare} (iblk m c 3 t0_0)))
      ⊢ iprop((St m K c 1 ∗ semVal (barCell c) 0 ∗ (((c : Thread nD τ).loc cc0_stg3_0) ↦[Finset.univ]{fullShare} (iblk m c 3 t0_0)) -∗ Q ⟨⟩)
          -∗ wp frame (wpE (defs₀ (F := F)) 𝒱₀ (c : Thread nD τ) none) Set.univ (q3 c v19 v60 v65) Q) := by
  subst h60
  rw [show q3 (F := F) c v19 (SemArray.scalar (sig.barrier 0 rfl)) v65 = k0_part3_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c v19 (SemArray.scalar (sig.barrier 0 rfl)) v65 from rfl]
  unfold k0_part3_skel
  simp only [semSignalWord, semWaitWord, Prog.lift, Prog.bind_op, Prog.bind_ret, Prog.pure_eq_ret]
  iintro ⟨#HR, #Hl, HO, ⟨Ht2, Hp2⟩, ⟨HatB, HcB⟩, HT, HP, Hh0, Hh1, H3⟩ Hk
  iapply (signal m K c 2 _ (ow c Finset.univ) rfl W _ (dev3_eq c)) $$ [HO Ht2 Hp2]
  · isplitr; · iexact HR
    isplitl [HO]; · iexact HO
    isplitl [Ht2]; · iexact Ht2
    iexact Hp2
  iintro HO
  ihave #HI := (inv_at m K (c, .inl ())) $$ HR
  iapply (Rounds.wp_wait_rest_token 𝒱₀ ER (rd m) (c : Thread nD τ) none (κ := K (c, .inl ()))
      (wpE_semWait_eq 𝒱₀ (c : Thread nD τ) none Set.univ) (Set.mem_univ _) () (O := ow c Finset.univ) (W := W) (R := 0) (m := 0) (T := ∅)
      (by rw [expect_bar]; decide)) $$ [HcB HO HatB]
  · isplitr; · iexact HI
    isplitl [HcB]; · iexact HcB
    isplitl [HO]; · iexact HO
    isplitr; · iapply (mayWait c (.inl ()) Finset.univ ((show ∀ j ∈ Finset.univ, lvOf (some (.inl ())) < lvR j by decide +kernel))); iexact Hl
    iexact HatB
  iintro ⟨HO, HatB, -, Hpay⟩
  ihave Hd := ((Entails.of_eq (rest_bar m c)).trans (bar_rest c)) $$ Hpay
  imod (Rounds.cell_close ER (rd m) (Set.mem_univ (K (c, .inl ()))) (fun h => h) (R := 0 + 1) (duties_later m (barCell c))) $$ [HatB] with HzB
  · isplitr; · iexact HI
    iexact HatB
  iapply (wp_load 𝒱₀ (c : Thread nD τ) none Set.univ (m := Memref.whole cc0_stg3_0) (S := Finset.univ) (Finset.subset_univ _)) $$ H3
  iintro H3
  rw [read3]
  ihave Hs := (slot0_eq c f).1 $$ [Hh0 Hh1]
  · isplitl [Hh0]; · iexact Hh0
    iexact Hh1
  iapply (wp_load 𝒱₀ (c : Thread nD τ) none Set.univ (m := sM) (S := (Rect.unit (s := S8x4x256x512) ![0, 0, 0, 0] S1x4x256x512.size inb_S8x4x256x512_S1x4x256x512_0_0_0_0).set)
    (by intro x hx; obtain ⟨y, hy, rfl⟩ := Finset.mem_map.mp hx; exact hy)) $$ Hs
  iintro Hs
  iapply (wp_store 𝒱₀ (c : Thread nD τ) none Set.univ (m := sM) (r := Rect.unit (s := S8x4x256x512) ![0, 0, 0, 0] S1x4x256x512.size inb_S8x4x256x512_S1x4x256x512_0_0_0_0) (Mk := Finset.univ)
    (subset_of_eq (View.set_slice_whole cc0_scratch0 _))) $$ Hs
  iintro Hs
  ihave Hs := (Entails.of_eq (pointsTo_congr (stored m c f))) $$ Hs
  ihave Hs := (slot0_eq c (full m c)).2 $$ Hs
  ihave HA := (slot0_in m c) $$ Hs
  ihave HS := (begin m K c) $$ [HO HT Hd HP HA]
  · isplitr; · iexact HR
    isplitr; · iexact Hl
    isplitl [HO]; · iexists _; iexact HO
    isplitl [HT]; · iexact HT
    isplitl [Hd]; · iexact Hd
    isplitl [HP]; · iexact HP
    iexact HA
  iapply (step_send m K c _ 0 0 rfl 0 2 (dev4_eq c)
    ((show ∀ c, (0 : Fin 16) = srcH 0 c by decide +kernel) c) ((show ∀ c, (2 : Fin 16) = lndH 0 (tgt (chain 0) c) by decide +kernel) c)) $$ [HS]
  · iexact HS
  iintro HS
  rw [wp_ret]
  imodintro
  iapply Hk
  isplitl [HS]; · iexact HS
  isplitl [HzB]; · iexact HzB
  iexact H3

end Cert.MoeProof

end
-- ==== Proof.Chain.lean ====
/-
# The parts, one after another
-/
module

public import proofs.«01_k».proof.Proof.Body

@[expose] public section

set_option maxRecDepth 65536

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

/-! ## The whole body -/

/-- The body's end: the result, stored. -/
def tail (v : FVec F S1024x512 .f32) : Prog (TpuEff nD τ sig (Elt F) Λ₀ .tc) PUnit := do
  let _ : Vec F S1024x512 .f32 ← Prog.lift (.load (Memref.whole cc0_stg4_0) (Rect.unit (s := S1024x512) ![0, 0] S1024x512.size inb_S1024x512_S1024x512_0_0).toLoadRect (View.loadsAt_vmem h_S1024x512))
  Prog.lift (.store (Memref.whole cc0_stg4_0) (Rect.unit (s := S1024x512) ![0, 0] S1024x512.size inb_S1024x512_S1024x512_0_0) v Finset.univ (View.stores_vmem_bits_univ h_S1024x512 rfl) (.inl rfl))
  pure ⟨⟩

/-- The body on the device's own buffers: its parts, one after another. -/
theorem body_eq : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 =
    (q1  >>= fun x1 =>
    q2 x1.1 x1.2.1 x1.2.2.1 x1.2.2.2 >>= fun x2 =>
    q3 x1.1 x1.2.2.1 x2.2.2.1 x2.2.2.2 >>= fun x3 =>
    q4 x1.1 x1.2.2.2 x2.1 x2.2.1 >>= fun x4 =>
    q5 x1.1 x1.2.1 x2.2.1 >>= fun x5 =>
    q6 x5.1 x5.2.1 x5.2.2.1 x5.2.2.2.1 x5.2.2.2.2.1 x5.2.2.2.2.2 >>= fun x6 =>
    q7 x1.2.1 x5.1 x5.2.1 x5.2.2.1 >>= fun x7 =>
    q8 x1.2.2.1 x5.1 x5.2.1 x5.2.2.1 x6 x7.1 x7.2.1 x7.2.2.1 x7.2.2.2 >>= fun x8 =>
    q9 x1.1 x1.2.1 x1.2.2.1 x2.1 x2.2.1 >>= fun x9 =>
    q10 x5.1 x5.2.1 x5.2.2.1 x8 x9.1 x9.2 >>= fun x10 =>
    q11 x1.1 x1.2.1 x1.2.2.2 x2.1 x2.2.1 >>= fun x11 =>
    q12 x5.1 x5.2.1 x5.2.2.1 x11.1 x11.2.1 x11.2.2.1 x11.2.2.2 >>= fun x12 =>
    q13 x1.2.2.1 x10 x12.1 x12.2.1 x12.2.2 >>= fun x13 =>
    q14 x1.1 x1.2.1 x2.1 x2.2.1 x5.2.1 x5.2.2.1 >>= fun x14 =>
    q15 x1.2.2.2 x5.1 x5.2.1 x5.2.2.1 x13 x14.1 x14.2.1 x14.2.2 >>= fun x15 =>
    q16 x1.1 x1.2.1 x1.2.2.2 x2.1 x2.2.1 >>= fun x16 =>
    q17 x5.1 x5.2.1 x5.2.2.1 x15 x16 >>= fun x17 =>
    q18 x1.2.1 x2.1 x2.2.1 >>= fun x18 =>
    q19 x1.1 x5.1 x5.2.1 x5.2.2.1 x17 x18 >>= fun x19 =>
    q20 x1.1 x1.2.1 x1.2.2.2 x2.1 x2.2.1 >>= fun x20 =>
    q21 x5.1 x5.2.1 x5.2.2.1 x19 x20.1 x20.2 >>= fun x21 =>
    q22 x1.1 x1.2.1 x1.2.2.1 x2.1 x2.2.1 >>= fun x22 =>
    q23 x5.1 x5.2.1 x5.2.2.1 x21 x22.1 x22.2 >>= fun x23 =>
    q24 x1.1 x1.2.1 x1.2.2.1 x1.2.2.2 >>= fun x24 =>
    q25 x5.1 x5.2.1 x5.2.2.1 x24.1 x24.2.1 x24.2.2.1 x24.2.2.2 >>= fun x25 =>
    q26 x1.2.2.1 x1.2.2.2 x23 x25.1 x25.2.1 x25.2.2 >>= fun x26 =>
    q27 x1.1 x1.2.1 x5.1 x5.2.1 x5.2.2.1 >>= fun x27 =>
    q28 x2.2.1 x5.1 x5.2.1 x5.2.2.1 x26 x27.1 x27.2.1 x27.2.2.1 x27.2.2.2 >>= fun x28 =>
    q29 x1.2.1 x5.1 x5.2.1 x5.2.2.1 >>= fun x29 =>
    q30 x2.2.1 x5.1 x5.2.1 x5.2.2.1 x28 x29.1 x29.2.1 x29.2.2 >>= fun x30 =>
    q31 x1.2.1 x5.1 x5.2.1 x5.2.2.1 x30.2 >>= fun x31 =>
    q32 x1.2.1 x1.2.2.1 x5.1 x5.2.1 x5.2.2.1 x30.1 x31.1 x31.2.1 x31.2.2 >>= fun x32 =>
    q33 x5.1 x5.2.1 x5.2.2.1 x32.2.1 x32.2.2.1 x32.2.2.2 >>= fun x33 =>
    q34 x1.2.1 x1.2.2.2 x5.1 x5.2.2.1 x32.1 x33.1 x33.2.1 x33.2.2.1 x33.2.2.2 >>= fun x34 =>
    q35 x5.1 x5.2.1 x5.2.2.1 x34.2.1 x34.2.2.1 x34.2.2.2 >>= fun x35 =>
    q36 x1.2.1 x2.1 x2.2.1 x5.1 x34.1 x35.1 x35.2.1 x35.2.2 >>= fun x36 =>
    q37 x1.1 x5.1 x5.2.1 x5.2.2.1 x36.1 x36.2.1 x36.2.2.1 x36.2.2.2.1 x36.2.2.2.2.1 x36.2.2.2.2.2 >>= fun x37 =>
    tail x37) := rfl

theorem write4 (f w : (cc0_stg4_0 : Ref sig .tc).ty.Contents (Elt F)) :
    ((Memref.whole cc0_stg4_0 : Memref sig .tc .vmem S1024x512 .f32).access (Rect.unit (s := S1024x512) ![0, 0] S1024x512.size inb_S1024x512_S1024x512_0_0)).write (Elt F) f w Finset.univ = w :=
  Memref.write_access_unit_zero_univ (Elt F) cc0_stg4_0 (funext fun a => by fin_cases a <;> rfl) _ f w

/-- What the device stores as its result. -/
abbrev outAt (c : Dev nD) : FVec F S1024x512 .f32 := r37 m c

abbrev st (c : Dev nD) (b : Ref sig .tc) (f : b.ty.Contents (Elt F)) : sProp 𝕄 := ((c : Thread nD τ).loc b) ↦[Finset.univ]{fullShare} f

theorem run_tail (v : FVec F S1024x512 .f32) (f : (cc0_stg4_0 : Ref sig .tc).ty.Contents (Elt F)) {Q : PUnit → sProp 𝕄} :
    iprop(st c cc0_stg4_0 f) ⊢ iprop((st c cc0_stg4_0 v -∗ Q ⟨⟩) -∗ wp frame (wpE (defs₀ (F := F)) 𝒱₀ (c : Thread nD τ) none) Set.univ (tail v) Q) := by
  unfold tail
  simp only [Prog.lift, Prog.bind_op, Prog.bind_ret, Prog.pure_eq_ret]
  iintro H Hk
  iapply (wp_load 𝒱₀ (c : Thread nD τ) none Set.univ (m := Memref.whole cc0_stg4_0) (S := Finset.univ) (Finset.subset_univ _)) $$ H
  iintro H
  iapply (wp_store 𝒱₀ (c : Thread nD τ) none Set.univ (m := Memref.whole cc0_stg4_0) (r := Rect.unit (s := S1024x512) ![0, 0] S1024x512.size inb_S1024x512_S1024x512_0_0) (Mk := Finset.univ)
    (Finset.subset_univ _)) $$ H
  iintro H
  ihave H := (Entails.of_eq (congrArg (fun g => (st c cc0_stg4_0 g : sProp 𝕄)) (write4 f v))) $$ H
  rw [wp_ret]
  imodintro
  iapply Hk
  iexact H

set_option maxHeartbeats 4000000 in
/-- From the launch's hand-over to the end, one part after another. -/
theorem run_body {Q : PUnit → sProp 𝕄} (W : Waits sig Unit) (f : cc0_scratch0.ty.Contents (Elt F)) (f4 : (cc0_stg4_0 : Ref sig .tc).ty.Contents (Elt F)) :
    iprop(records m K ∗ levAts L lv ∗ owes (c : Thread nD τ) (O₀ c) W
        ∗ ((dutyTok ER (barCell (tgt 1 c)) 0 (opp 1) ∗ barPay (tgt 1 c) (opp 1)) ∗ (dutyTok ER (barCell (tgt 0 c)) 0 (opp 0) ∗ barPay (tgt 0 c) (opp 0)))
        ∗ (dutyTok ER (barCell (tgt 2 c)) 0 (opp 2) ∗ barPay (tgt 2 c) (opp 2))
        ∗ (atPos ER (barCell c) 0 ∅ 0 ∗ cred (tallyAt (barCell c) () 3))
        ∗ (bigSep Finset.univ fun j => iprop(dutyTok ER (sndCell c j) 0 0 ∗ dutyTok ER (rcvCell (tgt (chain j) c) j) 0 0 ∗ atPos ER (sndCell c j) 0 ∅ 0))
        ∗ bigSep Finset.univ (pend c)
        ∗ (half c 0 fullShare f ∗ half c 1 fullShare f)
        ∗ st c cc0_stg0_0 (iblk m c 0 t0_0) ∗ st c cc0_stg1_0 (iblk m c 1 t0_0) ∗ st c cc0_stg2_0 (iblk m c 2 t0_0) ∗ st c cc0_stg3_0 (iblk m c 3 t0_0)
        ∗ st c cc0_stg4_0 f4)
      ⊢ iprop((St m K c 46 ∗ semVal (barCell c) 0
          ∗ st c cc0_stg0_0 (iblk m c 0 t0_0) ∗ st c cc0_stg1_0 (iblk m c 1 t0_0) ∗ st c cc0_stg2_0 (iblk m c 2 t0_0) ∗ st c cc0_stg3_0 (iblk m c 3 t0_0)
          ∗ st c cc0_stg4_0 (outAt m c) -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6) Q) := by
  rw [body_eq]
  simp only [wp_bind]
  iintro ⟨#HR, #Hl, HO, HB, HB2, HatB, HT, HP, ⟨Hh0, Hh1⟩, H0, H1, H2, H3, H4⟩ Hk
  iapply (run1 m c ⟨c, (r1 m c).2.1, (r1 m c).2.2.1, (r1 m c).2.2.2⟩ rfl)
  icases HB with ⟨HB1, HB0⟩
  iapply (run2 m K c _ _ _ ⟨(r2 m c).1, (r2 m c).2.1, SemArray.scalar (sig.barrier 0 rfl), (r2 m c).2.2.2⟩ rfl W) $$ [HO HB1 HB0]
  · isplitr; · iexact HR
    isplitl [HO]; · iexact HO
    isplitl [HB1]; · iexact HB1
    iexact HB0
  iintro HO
  iapply (run3 m K c _ _ rfl _ W f) $$ [HO HB2 HatB HT HP Hh0 Hh1 H3]
  · isplitr; · iexact HR
    isplitr; · iexact Hl
    isplitl [HO]; · iexact HO
    isplitl [HB2]; · iexact HB2
    isplitl [HatB]; · iexact HatB
    isplitl [HT]; · iexact HT
    isplitl [HP]; · iexact HP
    isplitl [Hh0]; · iexact Hh0
    isplitl [Hh1]; · iexact Hh1
    iexact H3
  iintro ⟨HS, HzB, H3⟩
  iapply (run4 m K c _ _ _) $$ [HS]
  · iexact HS
  iintro HS
  iapply (run5 m K c _ _ (r5 m c) rfl) $$ [HS H0 H1 H2]
  · isplitl [HS]; · iexact HS
    isplitl [H0]; · iexact H0
    isplitl [H1]; · iexact H1
    iexact H2
  iintro ⟨HS, H0, H1, H2⟩
  iapply (run6 m K c _ _ _ _ _ _ (r6 m c) rfl) $$ [HS]
  · iexact HS
  iintro HS
  iapply (run7 m K c _ _ _ _ (r7 m c) rfl) $$ [HS]
  · iexact HS
  iintro HS
  iapply (run8 m K c _ _ _ _ _ _ _ _ _ (r8 m c) rfl) $$ [HS]
  · iexact HS
  iintro HS
  iapply (run9 m K c _ _ _ _ (r9 m c) rfl) $$ [HS]
  · iexact HS
  iintro HS
  iapply (run10 m K c _ _ _ _ _ _ (r10 m c) rfl) $$ [HS]
  · iexact HS
  iintro HS
  iapply (run11 m K c _ _ _ _ (r11 m c) rfl) $$ [HS]
  · iexact HS
  iintro HS
  iapply (run12 m K c _ _ _ _ _ _ _ (r12 m c) rfl) $$ [HS]
  · iexact HS
  iintro HS
  iapply (run13 m K c _ _ _ _ _ (r13 m c) rfl) $$ [HS]
  · iexact HS
  iintro HS
  iapply (run14 m K c _ _ _ _ _ (r14 m c) rfl) $$ [HS]
  · iexact HS
  iintro HS
  iapply (run15 m K c _ _ _ _ _ _ _ _ (r15 m c) rfl) $$ [HS]
  · iexact HS
  iintro HS
  iapply (run16 m K c _ _ _ _ (r16 m c) rfl) $$ [HS]
  · iexact HS
  iintro HS
  iapply (run17 m K c _ _ _ _ _ (r17 m c) rfl) $$ [HS]
  · iexact HS
  iintro HS
  iapply (run18 m K c _ _ _ (r18 m c) rfl) $$ [HS]
  · iexact HS
  iintro HS
  iapply (run19 m K c _ _ _ _ _ (r19 m c) rfl) $$ [HS]
  · iexact HS
  iintro HS
  iapply (run20 m K c _ _ _ _ (r20 m c) rfl) $$ [HS]
  · iexact HS
  iintro HS
  iapply (run21 m K c _ _ _ _ _ _ (r21 m c) rfl) $$ [HS]
  · iexact HS
  iintro HS
  iapply (run22 m K c _ _ _ _ (r22 m c) rfl) $$ [HS]
  · iexact HS
  iintro HS
  iapply (run23 m K c _ _ _ _ _ _ (r23 m c) rfl) $$ [HS]
  · iexact HS
  iintro HS
  iapply (run24 m K c _ _ _ (r24 m c) rfl) $$ [HS]
  · iexact HS
  iintro HS
  iapply (run25 m K c _ _ _ _ _ _ _ (r25 m c) rfl) $$ [HS]
  · iexact HS
  iintro HS
  iapply (run26 m K c _ _ _ _ _ _ (r26 m c) rfl) $$ [HS]
  · iexact HS
  iintro HS
  iapply (run27 m K c _ _ _ _ (r27 m c) rfl) $$ [HS]
  · iexact HS
  iintro HS
  iapply (run28 m K c _ _ _ _ _ _ _ _ _ (r28 m c) rfl) $$ [HS]
  · iexact HS
  iintro HS
  iapply (run29 m K c _ _ _ _ (r29 m c) rfl) $$ [HS]
  · iexact HS
  iintro HS
  iapply (run30 m K c _ _ _ _ _ _ _ _ (r30 m c) rfl) $$ [HS]
  · iexact HS
  iintro HS
  iapply (run31 m K c _ _ _ _ _ (r31 m c) rfl) $$ [HS]
  · iexact HS
  iintro HS
  iapply (run32 m K c _ _ _ _ _ _ _ _ _ (r32 m c) rfl) $$ [HS]
  · iexact HS
  iintro HS
  iapply (run33 m K c _ _ _ _ _ _ (r33 m c) rfl) $$ [HS]
  · iexact HS
  iintro HS
  iapply (run34 m K c _ _ _ _ _ _ _ _ _ (r34 m c) rfl) $$ [HS]
  · iexact HS
  iintro HS
  iapply (run35 m K c _ _ _ _ _ _ (r35 m c) rfl) $$ [HS]
  · iexact HS
  iintro HS
  iapply (run36 m K c _ _ _ _ _ _ _ _ (r36 m c) rfl) $$ [HS]
  · iexact HS
  iintro HS
  iapply (run37 m K c _ _ _ _ _ _ _ _ _ (r37 m c) rfl) $$ [HS]
  · iexact HS
  iintro HS
  iapply (run_tail c (r37 m c) f4) $$ [H4]
  · iexact H4
  iintro H4
  iapply Hk
  isplitl [HS]; · iexact HS
  isplitl [HzB]; · iexact HzB
  isplitl [H0]; · iexact H0
  isplitl [H1]; · iexact H1
  isplitl [H2]; · iexact H2
  isplitl [H3]; · iexact H3
  iexact H4

end Cert.MoeProof

end
-- ==== Proof.Launch.lean ====
/-
# The launch

What the launch deals each device, the whole run from it, and what the run leaves.
-/
module

public import proofs.«01_k».proof.Proof.Chain

@[expose] public section

set_option maxRecDepth 65536

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

def s₀ : MemSt nD τ sig (Elt F) := ⟨m, fun _ => 0, ρ⟩

/-! ## What a device starts with and ends with -/

/-- The device's share of the ledger: its positions, and the tokens of the duties it pays. -/
def ghost (K : Dev nD × CK → ℕ) (c : Dev nD) : sProp 𝕄 :=
  iprop(records m K ∗ atPos ER (barCell c) 0 ∅ 0
    ∗ (bigSep Finset.univ fun j : Fin 14 => iprop(dutyTok ER (sndCell c j) 0 0 ∗ dutyTok ER (rcvCell (tgt (chain j) c) j) 0 0 ∗ atPos ER (sndCell c j) 0 ∅ 0))
    ∗ (bigSep Finset.univ fun j : Fin 14 => atPos ER (rcvCell c j) 0 ∅ 0)
    ∗ (bigSep Finset.univ fun d : Fin 3 => dutyTok ER (barCell (tgt d c)) 0 (opp d)))

/-- With it, the credits its own cells are to get. -/
def start (c : Dev nD) : sProp 𝕄 :=
  iprop((∃ K, ghost m K c) ∗ cred (tallyAt (barCell c) () 3) ∗ (bigSep Finset.univ fun j : Fin 14 => cred (tallyAt (rcvCell c j) () N)) ∗ levAts L lv)

def Φ₀ (c : Dev nD) : sProp 𝕄 := iprop(start m c ∗ ∃ f, ((c : Thread nD τ).loc cc0_scratch0) ↦{fullShare} f)
/-- At the end: all eight slots filled, every semaphore at zero. -/
def Φ₁ (c : Dev nD) : sProp 𝕄 :=
  iprop((((c : Thread nD τ).loc cc0_scratch0) ↦{fullShare} (full m c))
    ∗ (bigSep Finset.univ fun j : Fin 14 => semVal (sndCell c j) 0) ∗ (bigSep Finset.univ fun j : Fin 14 => semVal (rcvCell c j) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's two sides -/

theorem pend_eq (c : Dev nD) : (bigSep Finset.univ (pend c) : sProp 𝕄)
    = iprop((bigSep Finset.univ fun j : Fin 14 => atPos ER (rcvCell c j) 0 ∅ 0) ∗ (bigSep Finset.univ fun j : Fin 14 => cred (tallyAt (rcvCell c j) () N))) :=
  bigSep_sep' _ _ _

theorem bar_toks (c : Dev nD) : (bigSep Finset.univ fun d : Fin 3 => (dutyTok ER (barCell (tgt d c)) 0 (opp d) : sProp 𝕄))
    = iprop(dutyTok ER (barCell (tgt 0 c)) 0 (opp 0) ∗ dutyTok ER (barCell (tgt 1 c)) 0 (opp 1) ∗ dutyTok ER (barCell (tgt 2 c)) 0 (opp 2)) :=
  bigSep_univ_eq_bigSepL [0, 1, 2] (by decide) (by decide) _

/-- The last state holds the whole buffer and every cell closed. -/
theorem St_last (K : Dev nD × CK → ℕ) (c : Dev nD) : St m K c 46 ⊢ iprop((((c : Thread nD τ).loc cc0_scratch0) ↦{fullShare} (full m c))
      ∗ (bigSep Finset.univ fun j : Fin 14 => semVal (sndCell c j) 0) ∗ (bigSep Finset.univ fun j : Fin 14 => semVal (rcvCell c j) 0)
      ∗ ∃ W, owes (c : Thread nD τ) 0 W) := by
  have hU : (sg c 46).U = ∅ := (show ∀ c, (sg c 46).U = ∅ by decide +kernel) c
  have hA : (sg c 46).A = Finset.univ := (show ∀ c, (sg c 46).A = Finset.univ by decide +kernel) c
  have hS : (sg c 46).Zs = Finset.univ := (show ∀ c, (sg c 46).Zs = Finset.univ by decide +kernel) c
  have hR : (sg c 46).Zr = Finset.univ := (show ∀ c, (sg c 46).Zr = Finset.univ by decide +kernel) c
  show StS m K c (sg c 46) ⊢ _
  unfold StS
  rw [hU, hA, hS, hR, show ow c ∅ = 0 from Finset.sum_empty]
  iintro ⟨-, HO, -, -, -, HA, HZs, HZr⟩
  isplitl [HA]; · iapply (whole_out m c); iexact HA
  isplitl [HZs]; · iexact HZs
  isplitl [HZr]; · iexact HZr
  iexact HO

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m c ∗ (dats m ρ 0 c).owesAt () t0_0.succ ∗ stg c cc0_stg0_0 (iblk m c 0 t0_0) ∗ stg c cc0_stg1_0 (iblk m c 1 t0_0)
    ∗ stg c cc0_stg2_0 (iblk m c 2 t0_0) ∗ stg c cc0_stg3_0 (iblk m c 3 t0_0) ∗ stg c cc0_stg4_0 (outAt m c))

theorem bef0 (c : Dev nD) (d) : (dats m ρ 0 c).before (0 : Fin 5) t0_0 d = iblk m c 0 t0_0 := by
  unfold Dat.before; rw [if_pos (fetch0_0 t0_0)]; rfl
theorem bef1 (c : Dev nD) (d) : (dats m ρ 0 c).before (1 : Fin 5) t0_0 d = iblk m c 1 t0_0 := by
  unfold Dat.before; rw [if_pos (fetch0_1 t0_0)]; rfl
theorem bef2 (c : Dev nD) (d) : (dats m ρ 0 c).before (2 : Fin 5) t0_0 d = iblk m c 2 t0_0 := by
  unfold Dat.before; rw [if_pos (fetch0_2 t0_0)]; rfl
theorem bef3 (c : Dev nD) (d) : (dats m ρ 0 c).before (3 : Fin 5) t0_0 d = iblk m c 3 t0_0 := by
  unfold Dat.before; rw [if_pos (fetch0_3 t0_0)]; rfl

set_option maxHeartbeats 1600000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6) (fun _ => bodyPost m ρ c) := by
  unfold bodyPre Φ₀ start ghost
  rw [bar_toks]
  iintro ⟨⟨⟨⟨%K, #HR, HatB, HT, HP, HB0, HB1, HB2⟩, HcB, HcR, #Hl⟩, ⟨%f, Hs⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  rw [bef0] at hg0
  rw [bef1] at hg1
  rw [bef2] at hg2
  rw [bef3] at hg3
  subst hg0 hg1 hg2 hg3
  unfold Dat.owesAt Pipeline.owesWithin
  icases Ho with ⟨%W, %hW, HO⟩
  rw [show (dats m ρ 0 c).owed t0_0.castSucc = O₀ c from rfl]
  ihave Hs := (shared_out c f) $$ Hs
  icases Hs with ⟨Hh0, Hh1, Hp1, Hp0, Hp2⟩
  iapply (run_body m K c W f g4) $$ [HO HatB HT HP HB0 HB1 HB2 HcB HcR Hh0 Hh1 Hp1 Hp0 Hp2 H0 H1 H2 H3 H4]
  · isplitr; · iexact HR
    isplitr; · iexact Hl
    isplitl [HO]; · iexact HO
    isplitl [HB0 HB1 Hp1 Hp0]
    · isplitl [HB1 Hp1]
      · isplitl [HB1]; · iexact HB1
        iexact Hp1
      · isplitl [HB0]; · iexact HB0
        iexact Hp0
    isplitl [HB2 Hp2]
    · isplitl [HB2]; · iexact HB2
      iexact Hp2
    isplitl [HatB HcB]
    · isplitl [HatB]; · iexact HatB
      iexact HcB
    isplitl [HT]; · iexact HT
    isplitl [HP HcR]
    · iapply (Entails.of_eq (pend_eq c).symm)
      isplitl [HP]; · iexact HP
      iexact HcR
    isplitl [Hh0 Hh1]
    · isplitl [Hh0]; · iexact Hh0
      iexact Hh1
    isplitl [H0]; · iexact H0
    isplitl [H1]; · iexact H1
    isplitl [H2]; · iexact H2
    isplitl [H3]; · iexact H3
    iexact H4
  iintro ⟨HS, HzB, H0, H1, H2, H3, H4⟩
  ihave HS := (St_last m K c) $$ HS
  icases HS with ⟨Hs, HZs, HZr, ⟨%W', HO⟩⟩
  unfold bodyPost Φ₁ Dat.owesAt Pipeline.owesWithin
  rw [show (dats m ρ 0 c).owed t0_0.succ = 0 from rfl]
  isplitl [Hs HZs HZr HzB]
  · isplitl [Hs]; · iexact Hs
    isplitl [HZs]; · iexact HZs
    isplitl [HZr]; · iexact HZr
    iexact HzB
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem sep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem body_obligation (c : Dev nD) : BodyObligation (dats (F := F) m ρ 0 c) (defs₀ (F := F)) 𝒱₀ () Set.univ := fun t => by
  rw [fin_N0 t]
  rw [sep_W, sep_W]
  simp only [owns_whole_eq]
  show bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6) (fun _ => bodyPost m ρ c)
  exact sound_body m ρ c

end Cert.MoeProof

end
-- ==== Proof.Run.lean ====
/-
# The whole run

What is dealt to the devices at the start, and the run of all eight from it.
-/
module

public import proofs.«01_k».proof.Proof.Launch
public import Idealize.ShloMosaic.Lib.Pipeline.CollectiveSegs

@[expose] public section

set_option maxRecDepth 65536

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens dealt -/

def allCells : Finset (GSem nD τ sig) := Finset.univ.map ⟨kcell, kcell_injective⟩

/-- Which duties a device's own cells have. -/
abbrev TK : Type := Fin 3 ⊕ (Fin 14 ⊕ Fin 14)
abbrev tokOf (x : Dev nD × TK) : GSem nD τ sig × ℕ × Fin 3 := match x.2 with
  | .inl d => (kcell (x.1, .inl ()), 0, d)
  | .inr k => (kcell (x.1, .inr k), 0, 0)
theorem tokOf_injective : Function.Injective (tokOf : Dev nD × TK → GSem nD τ sig × ℕ × Fin 3) := by
  rintro ⟨c, k⟩ ⟨c', k'⟩ h
  rcases k with d | k <;> rcases k' with d' | k'
  · have h1 := kcell_injective (congrArg Prod.fst h)
    have h2 : d = d' := congrArg (fun x : GSem nD τ sig × ℕ × Fin 3 => x.2.2) h
    have h3 : c = c' := congrArg Prod.fst h1
    rw [h2, h3]
  · have h1 := kcell_injective (congrArg Prod.fst h)
    exact absurd (congrArg Prod.snd h1) (by rintro ⟨⟩)
  · have h1 := kcell_injective (congrArg Prod.fst h)
    exact absurd (congrArg Prod.snd h1) (by rintro ⟨⟩)
  · have h1 := kcell_injective (congrArg Prod.fst h)
    have h3 : c = c' := congrArg Prod.fst h1
    have h4 : k = k' := Sum.inr.inj (congrArg Prod.snd h1)
    rw [h3, h4]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 3 => dutyTok ER (barCell c) 0 d)
    ∗ (bigSep Finset.univ fun j : Fin 14 => dutyTok ER (sndCell c j) 0 0) ∗ (bigSep Finset.univ fun j : Fin 14 => dutyTok ER (rcvCell c j) 0 0))

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m K c)

theorem bigSep_CK (Φ : CK → sProp 𝕄) : bigSep Finset.univ Φ
    = iprop(Φ (.inl ()) ∗ (bigSep Finset.univ fun j : Fin 14 => Φ (.inr (.inl j))) ∗ (bigSep Finset.univ fun j : Fin 14 => Φ (.inr (.inr j)))) := by
  rw [bigSep_univ_sum, bigSep_univ_sum, bigSep_univ_eq_bigSepL [()] (by decide) (by decide), bigSepL_singleton]
  rfl

theorem bigSep_TK (Φ : TK → sProp 𝕄) : bigSep Finset.univ Φ
    = iprop((bigSep Finset.univ fun d : Fin 3 => Φ (.inl d)) ∗ (bigSep Finset.univ fun j : Fin 14 => Φ (.inr (.inl j))) ∗ (bigSep Finset.univ fun j : Fin 14 => Φ (.inr (.inr j)))) := by
  rw [bigSep_univ_sum, bigSep_univ_sum]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_TK]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j : Fin 14 => semVal (sndCell c j) 0) ∗ (bigSep Finset.univ fun j : Fin 14 => semVal (rcvCell c j) 0)) := by
  unfold Pipeline.ownSems0
  rw [bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun d : Fin 3 => dutyTok ER (barCell (tgt d c)) 0 (opp d))
    ∗ (bigSep Finset.univ fun j : Fin 14 => dutyTok ER (sndCell c j) 0 0)
    ∗ (bigSep Finset.univ fun j : Fin 14 => dutyTok ER (rcvCell (tgt (chain j) c) j) 0 0))

/-- The device and chain at the other end of a chain, -/
def across : Dev nD × Fin 3 ≃ Dev nD × Fin 3 where
  toFun x := (tgt x.2 x.1, opp x.2)
  invFun x := (tgt x.2 x.1, opp x.2)
  left_inv x := by
    show (tgt (opp x.2) (tgt x.2 x.1), opp (opp x.2)) = x
    rw [tgt_opp, opp_opp]
  right_inv x := by
    show (tgt (opp x.2) (tgt x.2 x.1), opp (opp x.2)) = x
    rw [tgt_opp, opp_opp]
/-- and the device at the other end of a copy. -/
def along : Dev nD × Fin 14 ≃ Dev nD × Fin 14 where
  toFun x := (tgt (chain x.2) x.1, x.2)
  invFun x := (tgt (opp (chain x.2)) x.1, x.2)
  left_inv x := by
    show (tgt (opp (chain x.2)) (tgt (chain x.2) x.1), x.2) = x
    rw [tgt_opp]
  right_inv x := by
    show (tgt (chain x.2) (tgt (opp (chain x.2)) x.1), x.2) = x
    rw [tgt_opp']

theorem bar_around : (bigSep Finset.univ fun c : Dev nD => bigSep Finset.univ fun d : Fin 3 => (dutyTok ER (barCell c) 0 d : sProp 𝕄))
    = bigSep Finset.univ fun c : Dev nD => bigSep Finset.univ fun d : Fin 3 => dutyTok ER (barCell (tgt d c)) 0 (opp d) := by
  rw [← bigSep_univ_prod (fun x : Dev nD × Fin 3 => (dutyTok ER (barCell x.1) 0 x.2 : sProp 𝕄)),
    bigSep_univ_equiv across, bigSep_univ_prod]
  rfl
theorem rcv_around : (bigSep Finset.univ fun c : Dev nD => bigSep Finset.univ fun j : Fin 14 => (dutyTok ER (rcvCell c j) 0 0 : sProp 𝕄))
    = bigSep Finset.univ fun c : Dev nD => bigSep Finset.univ fun j : Fin 14 => dutyTok ER (rcvCell (tgt (chain j) c) j) 0 0 := by
  rw [← bigSep_univ_prod (fun x : Dev nD × Fin 14 => (dutyTok ER (rcvCell x.1 x.2) 0 0 : sProp 𝕄)),
    bigSep_univ_equiv along, bigSep_univ_prod]
  rfl

theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, rcv_around]

def linear (c : Dev nD) : sProp 𝕄 := iprop((bigSep Finset.univ fun k : CK => atPos ER (kcell (c, k)) 0 ∅ 0) ∗ payToks c)

theorem ghost_intro (K : Dev nD × CK → ℕ) (c : Dev nD) : iprop(records m K ∗ linear c) ⊢ G' m c := by
  unfold linear payToks G' ghost
  rw [bigSep_CK, bigSep_sep', bigSep_sep']
  iintro ⟨HR, ⟨HaB, HaS, HaV⟩, HtB, HtS, HtV⟩
  iexists K
  isplitl [HR]; · iexact HR
  isplitl [HaB]; · iexact HaB
  isplitl [HtS HtV HaS]
  · isplitl [HtS]; · iexact HtS
    isplitl [HtV]; · iexact HtV
    iexact HaS
  isplitl [HaV]; · iexact HaV
  iexact HtB

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each cell is to get -/

theorem tally_cell (a b : Dev nD × CK) (n : ℕ) : (tallyAt (kcell a) () n : CellTallies nD τ sig Unit) (kcell b) () = if b = a then n else 0 := by
  rw [tallyAt_apply]
  by_cases h : b = a
  · rw [if_pos h, if_pos ⟨congrArg kcell h, rfl⟩]
  · rw [if_neg h, if_neg fun hh => h (kcell_injective hh.1)]

theorem ow_cell (d : Dev nD) (b : Dev nD × CK) :
    ow d Finset.univ (kcell b) () = Finset.sum Finset.univ fun j : Fin 14 => if b = (tgt (chain j) d, .inr (.inr j)) then N else 0 := by
  unfold ow
  rw [Finset.sum_apply, Finsupp.finset_sum_apply]
  exact Finset.sum_congr rfl fun j _ => tally_cell (tgt (chain j) d, .inr (.inr j)) b N

theorem owed_cell (d : Dev nD) (b : Dev nD × CK) : O₀ d (kcell b) ()
    = (Finset.sum Finset.univ fun j : Fin 14 => if b = (tgt (chain j) d, .inr (.inr j)) then N else 0)
      + (if b = (tgt 2 d, .inl ()) then 1 else 0) + (if b = (tgt 0 d, .inl ()) then 1 else 0) + (if b = (tgt 1 d, .inl ()) then 1 else 0) := by
  unfold O₀
  rw [Pi.add_apply, Finsupp.add_apply, Pi.add_apply, Finsupp.add_apply, Pi.add_apply, Finsupp.add_apply, ow_cell,
    ← tally_cell (tgt 2 d, .inl ()) b, ← tally_cell (tgt 0 d, .inl ()) b, ← tally_cell (tgt 1 d, .inl ()) b]

theorem owed_bar (d c : Dev nD) : O₀ d (barCell c) () = (if c = tgt 2 d then 1 else 0) + (if c = tgt 0 d then 1 else 0) + (if c = tgt 1 d then 1 else 0) := by
  rw [show barCell c = kcell (c, .inl ()) from rfl, owed_cell, Finset.sum_eq_zero fun j _ => if_neg (fun h => by cases congrArg Prod.snd h)]
  simp only [Prod.mk.injEq, and_true, Nat.zero_add]

theorem owed_rcv (d c : Dev nD) (j : Fin 14) : O₀ d (rcvCell c j) () = if d = tgt (opp (chain j)) c then N else 0 := by
  rw [show rcvCell c j = kcell (c, .inr (.inr j)) from rfl, owed_cell, if_neg (fun h => by cases congrArg Prod.snd h),
    if_neg (fun h => by cases congrArg Prod.snd h), if_neg (fun h => by cases congrArg Prod.snd h), Nat.add_zero,
    Finset.sum_eq_single j (fun j' _ hj => if_neg fun h => hj (Sum.inr.inj (Sum.inr.inj (congrArg Prod.snd h))).symm) (fun h => absurd (Finset.mem_univ _) h)]
  by_cases h : d = tgt (opp (chain j)) c
  · rw [if_pos h, if_pos (by rw [h, tgt_opp'])]
  · rw [if_neg h, if_neg fun hh => h (by rw [show c = tgt (chain j) d from congrArg Prod.fst hh]; exact (tgt_opp _ _).symm)]

theorem three (c : Dev nD) : (Finset.sum Finset.univ fun d : Dev nD => (if c = tgt 2 d then 1 else 0) + (if c = tgt 0 d then 1 else 0) + (if c = tgt 1 d then 1 else 0)) = 3 := by
  revert c; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact three c

theorem launch_rcv (c : Dev nD) (j : Fin 14) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j,
    Finset.sum_ite_eq' Finset.univ (tgt (opp (chain j)) c) fun _ => N, if_pos (Finset.mem_univ _)]

theorem creds (c : Dev nD) :
    (Pipeline.launchCred O₀ c : sProp 𝕄) ⊢ iprop(cred (tallyAt (barCell c) () 3) ∗ (bigSep Finset.univ fun j : Fin 14 => cred (tallyAt (rcvCell c j) () N))) := by
  unfold Pipeline.launchCred
  rw [bigSep_univ_at _ (SemLoc.reg barS), launch_bar]
  refine sep_mono_right ?_
  refine (bigSep_subset (M := MT nD τ sig Unit (Elt F) ℕ UU ℕ) (s := Finset.univ.erase (SemLoc.reg barS)) (t := Finset.univ.map ⟨fun j : Fin 14 => (SemLoc.dma (rcvS j) : SemLoc sig), by decide⟩) ?_).trans ?_
  · decide
  · rw [bigSep_map]
    exact Entails.of_eq (bigSep_congr fun j _ => congrArg cred (launch_rcv c j))

/-! ## The launch's own conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hr, HzS, HzV, HzB⟩
  isplitl [HzB]; · iexact HzB
  isplitl [HzS HzV]
  · isplitl [HzS]; · iexact HzS
    iexact HzV
  iexists (full m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in window `w`'s array on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the eight devices' run ends, with each array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays read hold what they held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.MoeProof

end
-- ==== Proof.Frames.lean ====
/-
# The two frames

The run as the claims say it: it ends, the arrays given hold what they held, every semaphore counter is at zero.
-/
module

public import proofs.«01_k».proof.Defs
public import proofs.«01_k».proof.Proof.Run
public import proofs.«01_k».proof.Proof.Gen.Kernel

@[expose] public section

noncomputable section

namespace Cert.MoeProof

open Idealize.ShloMosaic Idealize.ShloMosaic.TcCoe Idealize.SL.Sem

/-- The printed kernel and its reading have the same text: the same bodies, -/
theorem defs₀_eq : (@Cert.Kernel.defs₀ Bits _ _) = @Cert.KernelIdeal.defs₀ Bits _ _ := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))
/-- and so the same calls. -/
theorem defs_eq : (@Cert.Kernel.defs Bits _ _) = @Cert.KernelIdeal.defs Bits _ _ := by
  unfold Cert.Kernel.defs Cert.KernelIdeal.defs
  exact congrArg (Pipeline.defs (Cert.KernelIdeal.pcfgs (F := Bits))) defs₀_eq

/-- The printed kernel's run, over words. -/
theorem frame_kernel : Cert.quiescent_Kernel := fun m ρ _ => by
  rw [defs_eq]
  exact (θ_run (Cert.KernelIdeal.defs (F := Bits)) (onTc (τ := Cert.KernelIdeal.τ) (Cert.KernelIdeal.main (F := Bits))) (s₀ m ρ)).mono
    (fun _ h => ⟨fun c => ⟨(h.1 c 0).trans (finalA_in m ρ c 0 rfl), (h.1 c 1).trans (finalA_in m ρ c 1 rfl),
      (h.1 c 2).trans (finalA_in m ρ c 2 rfl), (h.1 c 3).trans (finalA_in m ρ c 3 rfl)⟩, h.2⟩)
    (run_main (F := Bits) m ρ)

/-- Its reading over the extended reals. -/
theorem frame_kernelIdeal : Cert.quiescent_KernelIdeal := fun m ρ _ =>
  (θ_run Cert.KernelIdeal.defs _ _).mono
    (fun _ h => ⟨fun c => ⟨(h.1 c 0).trans (finalA_in m ρ c 0 rfl), (h.1 c 1).trans (finalA_in m ρ c 1 rfl),
      (h.1 c 2).trans (finalA_in m ρ c 2 rfl), (h.1 c 3).trans (finalA_in m ρ c 3 rfl)⟩, h.2⟩)
    (run_main (F := Ideal) m ρ)

end Cert.MoeProof

end
-- ==== Proof.Accum.lean ====
/-
# What the body accumulates

The accumulator a device ends with is a sum of sixteen products, one per half of a slot of its scratch buffer: the
block of tokens, scaled by the gates of the half's two experts, times those experts' weights one over the other.
-/
module

public import proofs.«01_k».proof.Proof.Chain

@[expose] public section

set_option maxRecDepth 65536
set_option maxHeartbeats 1000000

noncomputable section

namespace Cert.MoeProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (c : Dev nD)

/-- The device whose weights a slot is for, as the body computes it from the device's position. -/
def orgW (p s : BitVec 32) : BitVec 32 :=
  let e := Scalar.select (Scalar.cmpi .eq 8#32 0#32) 1#32 8#32
  let r := Scalar.remsi (Scalar.subi p s) e
  let w := Scalar.select (Scalar.andi (Scalar.xori (Scalar.cmpi .slt r 0#32) (Scalar.cmpi .slt e 0#32)) (Scalar.cmpi .ne r 0#32)) (Scalar.addi r e) r
  Scalar.xori w (Scalar.select (Scalar.cmpi .sge w 4#32) 3#32 0#32)

/-- The number of an expert: the device's, the half's first and the place in the half. -/
def eidW (o lo j : BitVec 32) : BitVec 32 := Scalar.addi (Scalar.addi (Scalar.muli o 4#32) lo) j

/-- The experts' numbers along a row. -/
abbrev eids : IVec S1024x32 32 := iota .tc S1024x32 32 [1] iota_S1024x32_d1_w32

/-- A column of the gates, picked by the expert's number. -/
def gcol (E : IVec S1024x32 32) (G : FVec F S1024x32 .f32) (e : BitVec 32) : FVec F S1024x1 .f32 :=
  shapeCast S1024x1 (multiReduction .add [1] S1024 (select (cmpi .eq E (broadcast S1024x32 e)) G
    (broadcast S1024x32 (Scalar.ofBits .f32 0x00000000#32 : F .f32))) 0x00000000#32 reduces_S1024x32_S1024 (.inl rfl) rfl) shapeCasts_S1024_S1024x1

/-- The tokens scaled by an expert's gates. -/
def scaled (X : FVec F S1024x256 .bf16) (E : IVec S1024x32 32) (G : FVec F S1024x32 .f32) (e : BitVec 32) : FVec F S1024x256 .bf16 :=
  truncf .bf16 (mulf (extf .f32 X bitsLt_bf16_f32) (broadcastTo S1024x256 (gcol E G e) broadcasts_S1024x1_S1024x256)) bitsLt_bf16_f32

/-- The product for one half. -/
def halfProd (X : FVec F S1024x256 .bf16) (E : IVec S1024x32 32) (G : FVec F S1024x32 .f32) (o lo : BitVec 32) (w : FVec F S512x512 .bf16) : FVec F S1024x512 .f32 :=
  matmul dot_S1024x512_S512x512_S1024x512_1_0_0_1_n_n none
    (concatenate S1024x512 1 [⟨S1024x256, scaled X E G (eidW o lo 0#32)⟩, ⟨S1024x256, scaled X E G (eidW o lo 1#32)⟩] concatenates_S1024x256_S1024x256_S1024x512_d1)
    w (constant S1024x512 .f32 0x00000000#32)

/-- One expert's weights, read of the scratch buffer. -/
def ld1 (off : Fin 4 → ℕ) (inb : ∀ a, off a + S1x1x256x512.size a ≤ S8x4x256x512.size a) : FVec F S256x512 .bf16 :=
  shapeCast S256x512 (sM.view.readAt (Elt F) (Rect.unit (s := S8x4x256x512) off S1x1x256x512.size inb).toLoadRect (full m c) : Vec F S1x1x256x512 .bf16) shapeCasts_S1x1x256x512_S256x512

/-- Two experts' weights, one over the other. -/
def ld2 (a b : FVec F S256x512 .bf16) : FVec F S512x512 .bf16 :=
  concatenate S512x512 0 [⟨S256x512, a⟩, ⟨S256x512, b⟩] concatenates_S256x512_S256x512_S512x512_d0

/-- Two experts' weights, read of the scratch buffer at once. -/
def ldd (off : Fin 4 → ℕ) (inb : ∀ a, off a + S1x2x256x512.size a ≤ S8x4x256x512.size a) : FVec F S512x512 .bf16 :=
  shapeCast S512x512 (sM.view.readAt (Elt F) (Rect.unit (s := S8x4x256x512) off S1x2x256x512.size inb).toLoadRect (full m c) : Vec F S1x2x256x512 .bf16) shapeCasts_S1x2x256x512_S512x512

/-- The device's block of tokens, as the body reads it. -/
def xBlk : FVec F S1024x256 .bf16 :=
  k0_pay2 ((Memref.whole cc0_stg0_0).view.readAt (Elt F) (Rect.unit (s := S1024x256) ![0, 0] S1024x256.size inb_S1024x256_S1024x256_0_0).toLoadRect (iblk m c 0 t0_0) : Vec F S1024x256 .bf16)

/-- The gates of the device's tokens. -/
def gates : FVec F S1024x32 .f32 :=
  k0_pay3 ((Memref.whole cc0_stg0_0).view.readAt (Elt F) (Rect.unit (s := S1024x256) ![0, 0] S1024x256.size inb_S1024x256_S1024x256_0_0).toLoadRect (iblk m c 0 t0_0) : Vec F S1024x256 .bf16)
    ((Memref.whole cc0_stg1_0).view.readAt (Elt F) (Rect.unit (s := S256x32) ![0, 0] S256x32.size inb_S256x32_S256x32_0_0).toLoadRect (iblk m c 1 t0_0) : Vec F S256x32 .bf16)
    ((Memref.whole cc0_stg2_0).view.readAt (Elt F) (Rect.unit (s := S1024x2) ![0, 0] S1024x1.size inb_S1024x2_S1024x1_0_0).toLoadRect (iblk m c 2 t0_0) : Vec F S1024x1 .i32)
    ((Memref.whole cc0_stg2_0).view.readAt (Elt F) (Rect.unit (s := S1024x2) ![0, 1] S1024x1.size inb_S1024x2_S1024x1_0_1).toLoadRect (iblk m c 2 t0_0) : Vec F S1024x1 .i32)

/-- The device's position, as the body computes it. -/
abbrev posW : BitVec 32 := (r1 m c).2.1
/-- Whether it is even, as the body computes it. -/
abbrev evnW : BitVec 1 := (r2 m c).1

theorem r5_eq : r5 m c = ⟨xBlk m c, eids, gates m c, (Scalar.select (Scalar.cmpi .eq 8#32 0#32) 1#32 8#32), (Scalar.remsi (Scalar.subi (posW m c) 0#32) (Scalar.select (Scalar.cmpi .eq 8#32 0#32) 1#32 8#32)), Scalar.andi (Scalar.xori (Scalar.cmpi .slt (Scalar.remsi (Scalar.subi (posW m c) 0#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.subi (posW m c) 0#32) (Scalar.select (Scalar.cmpi .eq 8#32 0#32) 1#32 8#32)) 0#32)⟩ := by
  show ev m c (k0_part5_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r2 m c).2.1) = _
  unfold k0_part5_skel
  by_cases hc : k0_cond2 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r9_eq : r9 m c = ⟨orgW (posW m c) 1#32, ld2 (ld1 m c ![1, 0, 0, 0] inb_S8x4x256x512_S1x1x256x512_1_0_0_0) (ld1 m c ![1, 1, 0, 0] inb_S8x4x256x512_S1x1x256x512_1_1_0_0)⟩ := by
  show ev m c (k0_part9_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r1 m c).2.2.1 (r2 m c).1 (r2 m c).2.1) = _
  unfold k0_part9_skel
  by_cases hc : k0_cond3 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r11_eq : r11 m c = ⟨(Scalar.select (Scalar.cmpi .eq 8#32 0#32) 1#32 8#32), (Scalar.remsi (Scalar.subi (posW m c) 7#32) (Scalar.select (Scalar.cmpi .eq 8#32 0#32) 1#32 8#32)), Scalar.cmpi .ne (Scalar.remsi (Scalar.subi (posW m c) 7#32) (Scalar.select (Scalar.cmpi .eq 8#32 0#32) 1#32 8#32)) 0#32, Scalar.cmpi .slt (Scalar.remsi (Scalar.subi (posW m c) 7#32) (Scalar.select (Scalar.cmpi .eq 8#32 0#32) 1#32 8#32)) 0#32⟩ := by
  show ev m c (k0_part11_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r1 m c).2.2.2 (r2 m c).1 (r2 m c).2.1) = _
  unfold k0_part11_skel
  by_cases hc : k0_cond4 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r14_eq : r14 m c = ⟨orgW (posW m c) 1#32, ld2 (ld1 m c ![1, 2, 0, 0] inb_S8x4x256x512_S1x1x256x512_1_2_0_0) (ld1 m c ![1, 3, 0, 0] inb_S8x4x256x512_S1x1x256x512_1_3_0_0), k0_pay15 (posW m c) (r5 m c).2.1 (r5 m c).2.2.1⟩ := by
  show ev m c (k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r2 m c).1 (r2 m c).2.1 (r5 m c).2.1 (r5 m c).2.2.1) = _
  unfold k0_part14_skel
  by_cases hc : k0_cond5 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r16_eq : r16 m c = orgW (posW m c) 7#32 := by
  show ev m c (k0_part16_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r1 m c).2.2.2 (r2 m c).1 (r2 m c).2.1) = _
  unfold k0_part16_skel
  by_cases hc : k0_cond6 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r20_eq : r20 m c = ⟨orgW (posW m c) 2#32, (ld1 m c ![2, 0, 0, 0] inb_S8x4x256x512_S1x1x256x512_2_0_0_0)⟩ := by
  show ev m c (k0_part20_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r1 m c).2.2.2 (r2 m c).1 (r2 m c).2.1) = _
  unfold k0_part20_skel
  by_cases hc : k0_cond7 c = 1#1
  · simp only [dif_pos hc, Prog.lift, Prog.bind_op, Prog.bind_ret, Prog.pure_eq_ret]; rfl
  · simp only [dif_neg hc, Prog.lift, Prog.bind_op, Prog.bind_ret, Prog.pure_eq_ret]; rfl

theorem r22_eq : r22 m c = ⟨orgW (posW m c) 6#32, (ld1 m c ![6, 0, 0, 0] inb_S8x4x256x512_S1x1x256x512_6_0_0_0)⟩ := by
  show ev m c (k0_part22_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2 cc0_scratch3 cc0_scratch4 cc0_scratch5 cc0_scratch6 c (r1 m c).2.1 (r1 m c).2.2.1 (r2 m c).1 (r2 m c).2.1) = _
  unfold k0_part22_skel
  by_cases hc : k0_cond8 c = 1#1
  · simp only [dif_pos hc, Prog.lift, Prog.bind_op, Prog.bind_ret, Prog.pure_eq_ret]; rfl
  · simp only [dif_neg hc, Prog.lift, Prog.bind_op, Prog.bind_ret, Prog.pure_eq_ret]; rfl

/-- The product for the half of slot `s` from expert `lo` on. -/
abbrev prodAt (s lo : BitVec 32) (w : FVec F S512x512 .bf16) : FVec F S1024x512 .f32 :=
  halfProd (r5 m c).1 (r5 m c).2.1 (r5 m c).2.2.1 (orgW (posW m c) s) lo w

theorem acc6 : (r6 m c) = prodAt m c 0#32 0#32 (ld2 (ld1 m c ![0, 0, 0, 0] inb_S8x4x256x512_S1x1x256x512_0_0_0_0) (ld1 m c ![0, 1, 0, 0] inb_S8x4x256x512_S1x1x256x512_0_1_0_0)) := by unfold r6; rw [show (r5 m c).2.2.2.1 = _ from by rw [r5_eq], show (r5 m c).2.2.2.2.1 = _ from by rw [r5_eq], show (r5 m c).2.2.2.2.2 = _ from by rw [r5_eq]]; rfl

theorem acc8 : (r8 m c) = addf (r6 m c) (prodAt m c 0#32 2#32 (ld2 (ld1 m c ![0, 2, 0, 0] inb_S8x4x256x512_S1x1x256x512_0_2_0_0) (ld1 m c ![0, 3, 0, 0] inb_S8x4x256x512_S1x1x256x512_0_3_0_0))) := rfl

theorem acc10 : (r10 m c) = addf (r8 m c) (prodAt m c 1#32 0#32 (ld2 (ld1 m c ![1, 0, 0, 0] inb_S8x4x256x512_S1x1x256x512_1_0_0_0) (ld1 m c ![1, 1, 0, 0] inb_S8x4x256x512_S1x1x256x512_1_1_0_0))) := by unfold r10; rw [r9_eq]; rfl

theorem acc13 : (r13 m c) = addf (r10 m c) (prodAt m c 7#32 0#32 (ld2 (ld1 m c ![7, 0, 0, 0] inb_S8x4x256x512_S1x1x256x512_7_0_0_0) (ld1 m c ![7, 1, 0, 0] inb_S8x4x256x512_S1x1x256x512_7_1_0_0))) := by unfold r13 r12; rw [r11_eq]; rfl

theorem acc15 : (r15 m c) = addf (r13 m c) (prodAt m c 1#32 2#32 (ld2 (ld1 m c ![1, 2, 0, 0] inb_S8x4x256x512_S1x1x256x512_1_2_0_0) (ld1 m c ![1, 3, 0, 0] inb_S8x4x256x512_S1x1x256x512_1_3_0_0))) := by unfold r15; rw [r14_eq]; rfl

theorem acc17 : (r17 m c) = addf (r15 m c) (prodAt m c 7#32 2#32 (ld2 (ld1 m c ![7, 2, 0, 0] inb_S8x4x256x512_S1x1x256x512_7_2_0_0) (ld1 m c ![7, 3, 0, 0] inb_S8x4x256x512_S1x1x256x512_7_3_0_0))) := by unfold r17; rw [r16_eq]; rfl

theorem acc19 : (r19 m c) = addf (r17 m c) (prodAt m c (Scalar.select (evnW m c) 5#32 3#32) 0#32 (ldd m c (k0_off1 c 5#32 3#32) (k0_off1_inb c 0))) := rfl

theorem acc21 : (r21 m c) = addf (r19 m c) (prodAt m c 2#32 0#32 (ld2 (ld1 m c ![2, 0, 0, 0] inb_S8x4x256x512_S1x1x256x512_2_0_0_0) (ld1 m c ![2, 1, 0, 0] inb_S8x4x256x512_S1x1x256x512_2_1_0_0))) := by unfold r21; rw [r20_eq]; rfl

theorem acc23 : (r23 m c) = addf (r21 m c) (prodAt m c 6#32 0#32 (ld2 (ld1 m c ![6, 0, 0, 0] inb_S8x4x256x512_S1x1x256x512_6_0_0_0) (ld1 m c ![6, 1, 0, 0] inb_S8x4x256x512_S1x1x256x512_6_1_0_0))) := by unfold r23; rw [r22_eq]; rfl

theorem acc26 : (r26 m c) = addf (r23 m c) (prodAt m c 2#32 2#32 (ld2 (ld1 m c ![2, 2, 0, 0] inb_S8x4x256x512_S1x1x256x512_2_2_0_0) (ld1 m c ![2, 3, 0, 0] inb_S8x4x256x512_S1x1x256x512_2_3_0_0))) := rfl

theorem acc28 : (r28 m c) = addf (r26 m c) (prodAt m c 6#32 2#32 (ld2 (ld1 m c ![6, 2, 0, 0] inb_S8x4x256x512_S1x1x256x512_6_2_0_0) (ld1 m c ![6, 3, 0, 0] inb_S8x4x256x512_S1x1x256x512_6_3_0_0))) := rfl

theorem acc30 : (r30 m c).1 = addf (r28 m c) (prodAt m c 4#32 0#32 (ld2 (ld1 m c ![4, 0, 0, 0] inb_S8x4x256x512_S1x1x256x512_4_0_0_0) (ld1 m c ![4, 1, 0, 0] inb_S8x4x256x512_S1x1x256x512_4_1_0_0))) := rfl

theorem acc32 : (r32 m c).1 = addf (r30 m c).1 (prodAt m c 4#32 2#32 (ld2 (ld1 m c ![4, 2, 0, 0] inb_S8x4x256x512_S1x1x256x512_4_2_0_0) (ld1 m c ![4, 3, 0, 0] inb_S8x4x256x512_S1x1x256x512_4_3_0_0))) := rfl

theorem acc34 : (r34 m c).1 = addf (r32 m c).1 (prodAt m c 3#32 2#32 (ld2 (ld1 m c ![3, 2, 0, 0] inb_S8x4x256x512_S1x1x256x512_3_2_0_0) (ld1 m c ![3, 3, 0, 0] inb_S8x4x256x512_S1x1x256x512_3_3_0_0))) := rfl

theorem acc36 : (r36 m c).1 = addf (r34 m c).1 (prodAt m c 5#32 2#32 (ld2 (ld1 m c ![5, 2, 0, 0] inb_S8x4x256x512_S1x1x256x512_5_2_0_0) (ld1 m c ![5, 3, 0, 0] inb_S8x4x256x512_S1x1x256x512_5_3_0_0))) := rfl

theorem acc37 : (r37 m c) = addf (r36 m c).1 (prodAt m c (Scalar.select (evnW m c) 3#32 5#32) 0#32 (ldd m c (k0_off1 c 3#32 5#32) (k0_off1_inb c 1))) := rfl

end Cert.MoeProof

end
-- ==== Proof.Halves.lean ====
/-
# The kernel's sixteen products, entry by entry

An entry of a product is the sum, over the half's two experts, of the scaled token's products with the expert's weights.
-/
module

public import proofs.«01_k».proof.Proof.Accum
public import Idealize.ShloMosaic.Lib.Pointwise
public import Idealize.ShloMosaic.Lib.IdealHost

@[expose] public section

set_option maxRecDepth 65536

noncomputable section

namespace Cert.MoeProof

open Cert.KernelIdeal Cert.KernelIdeal.Gen
open Idealize.ShloMosaic
open Idealize.ShloMosaic.TcCoe
open Idealize.SL.Sem
open scoped BigOperators

variable (m : (ℓ : Loc nD τ sig) → Buf (Elt Ideal) ℓ) (c : Dev nD)

/-! ## Scalars -/

theorem posW_eq : posW m c = BitVec.ofNat 32 (pos c).val := by
  revert c; intro c; fin_cases c <;> rfl

/-- Whether a position is even, as the body computes it. -/
def parW (p : BitVec 32) : BitVec 1 :=
  let e := Scalar.select (Scalar.cmpi .eq 2#32 0#32) 1#32 2#32
  let r := Scalar.remsi p e
  Scalar.cmpi .eq (Scalar.select (Scalar.andi (Scalar.xori (Scalar.cmpi .slt r 0#32) (Scalar.cmpi .slt e 0#32)) (Scalar.cmpi .ne r 0#32)) (Scalar.addi r e) r) 0#32

theorem evnW_eq : evnW m c = if evn c then 1#1 else 0#1 := by
  have h : evnW m c = parW (posW m c) := rfl
  rw [h, posW_eq]
  exact (show ∀ c : Dev nD, parW (BitVec.ofNat 32 (pos c).val) = if evn c then 1#1 else 0#1 by decide +kernel) c

theorem eid_eq (s : Fin 8) (lo : Fin 3) (j : Fin 2) : eidW (orgW (BitVec.ofNat 32 (pos c).val) (BitVec.ofNat 32 s.val)) (BitVec.ofNat 32 lo.val) (BitVec.ofNat 32 j.val) = BitVec.ofNat 32 (4 * (origin c s).val + lo.val + j.val) := by
  revert c s lo j; decide +kernel

/-! ## Loads -/

/-- A device's own weights. -/
abbrev wDev (c : Dev nD) : Vec Ideal S4x256x512 .bf16 := iblk m c 3 t0_0

theorem pay1_at (x : Vec Ideal S4x256x512 .bf16) (z : Fin 1) (e : Fin 4) (d : Fin 256) (h : Fin 512) : k0_pay1 x (ix4 z e d h) = x (ix3 e d h) := by
  pointwise [k0_pay1]

theorem full_at (s : Fin 8) (e : Fin 4) (d : Fin 256) (h : Fin 512) : full m c (ix4 s e d h) = wDev m (origin c s) (ix3 e d h) := by
  have hz : full m c (ix4 s e d h) = k0_pay1 (wDev m (origin c s)) (ix4 0 e d h) := by
    rw [full_apply]
    unfold wOwn
    congr 1
    funext a; fin_cases a <;> rfl
  rw [hz]
  exact pay1_at _ 0 e d h

theorem ld1_at (s : Fin 8) (e : Fin 4) (inb : ∀ a, (![s.val, e.val, 0, 0] : Fin 4 → ℕ) a + S1x1x256x512.size a ≤ S8x4x256x512.size a) (d : Fin 256) (h : Fin 512) :
    ld1 m c ![s.val, e.val, 0, 0] inb (ix2 d h) = wDev m (origin c s) (ix3 e d h) := by
  rw [← full_at]
  have hs : ∀ (x : Vec Ideal S1x1x256x512 .bf16), shapeCast S256x512 x shapeCasts_S1x1x256x512_S256x512 (ix2 d h) = x (ix4 0 0 d h) := by
    intro x; pointwise []
  unfold ld1
  rw [hs, View.readAt_apply]
  refine (cast_eq _ _).trans (congrArg (full m c) ?_)
  funext a; fin_cases a <;> refine Fin.ext ?_
  · show s.val + 1 * 0 = s.val; omega
  · show e.val + 1 * 0 = e.val; omega
  · show 0 + 1 * d.val = d.val; omega
  · show 0 + 1 * h.val = h.val; omega

theorem ldd_at (off : Fin 4 → ℕ) (inb : ∀ a, off a + S1x2x256x512.size a ≤ S8x4x256x512.size a) (s : Fin 8) (e : Fin 3) (ho : off = ![s.val, e.val, 0, 0])
    (j : Fin 2) (d : Fin 256) (h : Fin 512) :
    ldd m c off inb (ix2 ⟨256 * j.val + d.val, by omega⟩ h) = wDev m (origin c s) (ix3 ⟨e.val + j.val, by omega⟩ d h) := by
  subst ho
  rw [← full_at]
  have hs : ∀ (x : Vec Ideal S1x2x256x512 .bf16), shapeCast S512x512 x shapeCasts_S1x2x256x512_S512x512 (ix2 ⟨256 * j.val + d.val, by omega⟩ h) = x (ix4 0 j d h) := by
    intro x; pointwise []
  unfold ldd
  rw [hs, View.readAt_apply]
  refine (cast_eq _ _).trans (congrArg (full m c) ?_)
  funext a; fin_cases a <;> refine Fin.ext ?_
  · show s.val + 1 * 0 = s.val; omega
  · show e.val + 1 * j.val = e.val + j.val; omega
  · show 0 + 1 * d.val = d.val; omega
  · show 0 + 1 * h.val = h.val; omega

theorem ld2_at (a b : FVec Ideal S256x512 .bf16) (d : Fin 256) (h : Fin 512) :
    ld2 a b (ix2 ⟨d.val, by omega⟩ h) = a (ix2 d h) ∧ ld2 a b (ix2 ⟨256 + d.val, by omega⟩ h) = b (ix2 d h) := by
  constructor
  · pointwise [ld2]
  · pointwise [ld2]

/-! ## Products -/

/-- The column of the gates picked by an expert's number is that expert's. -/
theorem gcol_at (G : FVec Ideal S1024x32 .f32) (e : Fin 32) (n : Fin 1024) : gcol eids G (BitVec.ofNat 32 e.val) (ix2 n 0) = G (ix2 n e) := by
  have hs : gcol eids G (BitVec.ofNat 32 e.val) (ix2 n 0) = ∑ x : Fin 32, Scalar.select (IntOp.cmpi CmpIPredicate.eq (BitVec.ofNat 32 x.val) (BitVec.ofNat 32 e.val)) (G (ix2 n x)) 0 := by
    pointwise [gcol]
  rw [hs, Finset.sum_congr rfl (g := fun x : Fin 32 => if x = e then G (ix2 n x) else 0), Finset.sum_ite_eq' Finset.univ e (fun x => G (ix2 n x)), if_pos (Finset.mem_univ _)]
  intro x _
  have hd : IntOp.cmpi CmpIPredicate.eq (BitVec.ofNat 32 x.val) (BitVec.ofNat 32 e.val) = if x = e then 1#1 else 0#1 := by
    exact (show ∀ x e : Fin 32, IntOp.cmpi CmpIPredicate.eq (BitVec.ofNat 32 x.val) (BitVec.ofNat 32 e.val) = if x = e then 1#1 else 0#1 by decide +kernel) x e
  rw [hd]
  by_cases h : x = e
  · rw [if_pos h, if_pos h]; rfl
  · rw [if_neg h, if_neg h]; rfl

/-- An expert's part in an entry of the result, before the sum over the experts. -/
def part (X : FVec Ideal S1024x256 .bf16) (G : FVec Ideal S1024x32 .f32) (W : Fin 256 → EReal) (e : Fin 32) (n : Fin 1024) : EReal :=
  ∑ k : Fin 256, (X (ix2 n k) * G (ix2 n e)) * W k

/-- The number of an expert of a device. -/
def eNum (d : Dev nD) (e : Fin 4) : Fin 32 := ⟨4 * d.val + e.val, by have := d.isLt; have : d.val < 8 := d.isLt; omega⟩

theorem halfProd_at (X : FVec Ideal S1024x256 .bf16) (G : FVec Ideal S1024x32 .f32) (s : Fin 8) (lo : Fin 3) (w : FVec Ideal S512x512 .bf16) (n : Fin 1024) (h : Fin 512)
    (h0 : ∀ d : Fin 256, w (ix2 ⟨d.val, by omega⟩ h) = wDev m (origin c s) (ix3 ⟨lo.val, by omega⟩ d h))
    (h1 : ∀ d : Fin 256, w (ix2 ⟨256 + d.val, by omega⟩ h) = wDev m (origin c s) (ix3 ⟨lo.val + 1, by omega⟩ d h)) :
    halfProd X eids G (orgW (posW m c) (BitVec.ofNat 32 s.val)) (BitVec.ofNat 32 lo.val) w (ix2 n h)
      = part X G (fun d => wDev m (origin c s) (ix3 ⟨lo.val, by omega⟩ d h)) (eNum (origin c s) ⟨lo.val, by omega⟩) n
        + part X G (fun d => wDev m (origin c s) (ix3 ⟨lo.val + 1, by omega⟩ d h)) (eNum (origin c s) ⟨lo.val + 1, by omega⟩) n := by
  have hsc : ∀ e k, scaled X eids G e (ix2 n k) = X (ix2 n k) * gcol eids G e (ix2 n 0) := by
    intro e k; pointwise [scaled]
  have hh : ∀ o l, halfProd X eids G o l w (ix2 n h)
      = ∑ k : Fin 256, scaled X eids G (eidW o l 0#32) (ix2 n k) * w (ix2 ⟨k.val, by omega⟩ h)
        + ∑ k : Fin 256, scaled X eids G (eidW o l 1#32) (ix2 n k) * w (ix2 ⟨256 + k.val, by omega⟩ h) := by
    intro o l; pointwise [halfProd]
  have e0 : eidW (orgW (posW m c) (BitVec.ofNat 32 s.val)) (BitVec.ofNat 32 lo.val) 0#32 = BitVec.ofNat 32 (eNum (origin c s) ⟨lo.val, by omega⟩).val := by
    rw [posW_eq]; exact eid_eq c s lo 0
  have e1 : eidW (orgW (posW m c) (BitVec.ofNat 32 s.val)) (BitVec.ofNat 32 lo.val) 1#32 = BitVec.ofNat 32 (eNum (origin c s) ⟨lo.val + 1, by omega⟩).val := by
    rw [posW_eq]; exact eid_eq c s lo 1
  rw [hh, e0, e1]
  unfold part
  refine congrArg₂ (· + ·) (Finset.sum_congr rfl fun k _ => ?_) (Finset.sum_congr rfl fun k _ => ?_)
  · rw [hsc, gcol_at, h0]
  · rw [hsc, gcol_at, h1]

end Cert.MoeProof

end
-- ==== Proof.Total.lean ====
/-
# An entry of the kernel's result

The sixteen products add up to the sum, over all thirty-two experts, of the scaled token's products with their weights.
-/
module

public import proofs.«01_k».proof.Proof.Halves

@[expose] public section

set_option maxRecDepth 65536

noncomputable section

namespace Cert.MoeProof

open Cert.KernelIdeal Cert.KernelIdeal.Gen
open Idealize.ShloMosaic
open Idealize.ShloMosaic.TcCoe
open Idealize.SL.Sem
open scoped BigOperators

variable (m : (ℓ : Loc nD τ sig) → Buf (Elt Ideal) ℓ) (c : Dev nD)

/-- What a device's expert adds to an entry. -/
def adds (n : Fin 1024) (h : Fin 512) (d : Dev nD) (e : Fin 4) : EReal :=
  part (xBlk m c) (gates m c) (fun k => wDev m d (ix3 e k h)) (eNum d e) n

theorem r5_x : (r5 m c).1 = xBlk m c := by rw [r5_eq]
theorem r5_e : (r5 m c).2.1 = eids := by rw [r5_eq]
theorem r5_g : (r5 m c).2.2.1 = gates m c := by rw [r5_eq]

/-- A half's product is what its two experts add. -/
theorem prod_at (s : Fin 8) (lo : Fin 3) (w : FVec Ideal S512x512 .bf16) (n : Fin 1024) (h : Fin 512)
    (h0 : ∀ d : Fin 256, w (ix2 ⟨d.val, by omega⟩ h) = wDev m (origin c s) (ix3 ⟨lo.val, by omega⟩ d h))
    (h1 : ∀ d : Fin 256, w (ix2 ⟨256 + d.val, by omega⟩ h) = wDev m (origin c s) (ix3 ⟨lo.val + 1, by omega⟩ d h)) :
    prodAt m c (BitVec.ofNat 32 s.val) (BitVec.ofNat 32 lo.val) w (ix2 n h)
      = adds m c n h (origin c s) ⟨lo.val, by omega⟩ + adds m c n h (origin c s) ⟨lo.val + 1, by omega⟩ := by
  unfold prodAt
  rw [r5_x, r5_e, r5_g]
  exact halfProd_at m c _ _ s lo w n h h0 h1

/-- A half read as two experts' weights. -/
theorem prod_pair (s : Fin 8) (lo : Fin 3) (n : Fin 1024) (h : Fin 512)
    (i0 : ∀ a, (![s.val, lo.val, 0, 0] : Fin 4 → ℕ) a + S1x1x256x512.size a ≤ S8x4x256x512.size a)
    (i1 : ∀ a, (![s.val, lo.val + 1, 0, 0] : Fin 4 → ℕ) a + S1x1x256x512.size a ≤ S8x4x256x512.size a) :
    prodAt m c (BitVec.ofNat 32 s.val) (BitVec.ofNat 32 lo.val) (ld2 (ld1 m c ![s.val, lo.val, 0, 0] i0) (ld1 m c ![s.val, lo.val + 1, 0, 0] i1)) (ix2 n h)
      = adds m c n h (origin c s) ⟨lo.val, by omega⟩ + adds m c n h (origin c s) ⟨lo.val + 1, by omega⟩ :=
  prod_at m c s lo _ n h (fun d => (ld2_at _ _ d h).1.trans (ld1_at m c s ⟨lo.val, by omega⟩ i0 d h))
    (fun d => (ld2_at _ _ d h).2.trans (ld1_at m c s ⟨lo.val + 1, by omega⟩ i1 d h))

/-- A half read at once. -/
theorem prod_once (s : Fin 8) (off : Fin 4 → ℕ) (inb : ∀ a, off a + S1x2x256x512.size a ≤ S8x4x256x512.size a) (ho : off = ![s.val, 0, 0, 0]) (n : Fin 1024) (h : Fin 512) :
    prodAt m c (BitVec.ofNat 32 s.val) 0#32 (ldd m c off inb) (ix2 n h) = adds m c n h (origin c s) 0 + adds m c n h (origin c s) 1 := by
  refine prod_at m c s 0 _ n h (fun d => ?_) (fun d => ?_)
  · refine Eq.trans (congrArg (fun i => ldd m c off inb (ix2 i h)) (Fin.ext ?_)) (ldd_at m c off inb s 0 ho 0 d h)
    show d.val = 256 * 0 + d.val; omega
  · refine Eq.trans (congrArg (fun i => ldd m c off inb (ix2 i h)) (Fin.ext ?_)) (ldd_at m c off inb s 0 ho 1 d h)
    show 256 + d.val = 256 * 1 + d.val; omega

/-- What a half adds. -/
def addsHalf (n : Fin 1024) (h : Fin 512) (s : Fin 8) (lo : Fin 3) : EReal :=
  adds m c n h (origin c s) ⟨lo.val, by omega⟩ + adds m c n h (origin c s) ⟨lo.val + 1, by omega⟩

theorem off_even (c : Dev nD) (hc : evn c = true) : k0_off1 c 5#32 3#32 = ![5, 0, 0, 0] ∧ k0_off1 c 3#32 5#32 = ![3, 0, 0, 0] :=
  (show ∀ c, evn c = true → k0_off1 c 5#32 3#32 = ![5, 0, 0, 0] ∧ k0_off1 c 3#32 5#32 = ![3, 0, 0, 0] by decide +kernel) c hc
theorem off_odd (c : Dev nD) (hc : evn c = false) : k0_off1 c 5#32 3#32 = ![3, 0, 0, 0] ∧ k0_off1 c 3#32 5#32 = ![5, 0, 0, 0] :=
  (show ∀ c, evn c = false → k0_off1 c 5#32 3#32 = ![3, 0, 0, 0] ∧ k0_off1 c 3#32 5#32 = ![5, 0, 0, 0] by decide +kernel) c hc

theorem at6 (n : Fin 1024) (h : Fin 512) : (r6 m c) (ix2 n h) = addsHalf m c n h 0 0 := by
  rw [acc6]
  exact prod_pair m c 0 0 n h _ _
theorem at8 (n : Fin 1024) (h : Fin 512) : (r8 m c) (ix2 n h) = (r6 m c) (ix2 n h) + addsHalf m c n h 0 2 := by
  rw [acc8]
  exact congrArg ((r6 m c) (ix2 n h) + ·) (prod_pair m c 0 2 n h _ _)
theorem at10 (n : Fin 1024) (h : Fin 512) : (r10 m c) (ix2 n h) = (r8 m c) (ix2 n h) + addsHalf m c n h 1 0 := by
  rw [acc10]
  exact congrArg ((r8 m c) (ix2 n h) + ·) (prod_pair m c 1 0 n h _ _)
theorem at13 (n : Fin 1024) (h : Fin 512) : (r13 m c) (ix2 n h) = (r10 m c) (ix2 n h) + addsHalf m c n h 7 0 := by
  rw [acc13]
  exact congrArg ((r10 m c) (ix2 n h) + ·) (prod_pair m c 7 0 n h _ _)
theorem at15 (n : Fin 1024) (h : Fin 512) : (r15 m c) (ix2 n h) = (r13 m c) (ix2 n h) + addsHalf m c n h 1 2 := by
  rw [acc15]
  exact congrArg ((r13 m c) (ix2 n h) + ·) (prod_pair m c 1 2 n h _ _)
theorem at17 (n : Fin 1024) (h : Fin 512) : (r17 m c) (ix2 n h) = (r15 m c) (ix2 n h) + addsHalf m c n h 7 2 := by
  rw [acc17]
  exact congrArg ((r15 m c) (ix2 n h) + ·) (prod_pair m c 7 2 n h _ _)
theorem at19 (n : Fin 1024) (h : Fin 512) : (r19 m c) (ix2 n h) = (r17 m c) (ix2 n h) + addsHalf m c n h (if evn c then 5 else 3) 0 := by
  rw [acc19]
  refine congrArg ((r17 m c) (ix2 n h) + ·) ?_
  rw [evnW_eq]
  cases hc : evn c
  · exact prod_once m c 3 _ _ (off_odd c hc).1 n h
  · exact prod_once m c 5 _ _ (off_even c hc).1 n h
theorem at21 (n : Fin 1024) (h : Fin 512) : (r21 m c) (ix2 n h) = (r19 m c) (ix2 n h) + addsHalf m c n h 2 0 := by
  rw [acc21]
  exact congrArg ((r19 m c) (ix2 n h) + ·) (prod_pair m c 2 0 n h _ _)
theorem at23 (n : Fin 1024) (h : Fin 512) : (r23 m c) (ix2 n h) = (r21 m c) (ix2 n h) + addsHalf m c n h 6 0 := by
  rw [acc23]
  exact congrArg ((r21 m c) (ix2 n h) + ·) (prod_pair m c 6 0 n h _ _)
theorem at26 (n : Fin 1024) (h : Fin 512) : (r26 m c) (ix2 n h) = (r23 m c) (ix2 n h) + addsHalf m c n h 2 2 := by
  rw [acc26]
  exact congrArg ((r23 m c) (ix2 n h) + ·) (prod_pair m c 2 2 n h _ _)
theorem at28 (n : Fin 1024) (h : Fin 512) : (r28 m c) (ix2 n h) = (r26 m c) (ix2 n h) + addsHalf m c n h 6 2 := by
  rw [acc28]
  exact congrArg ((r26 m c) (ix2 n h) + ·) (prod_pair m c 6 2 n h _ _)
theorem at30 (n : Fin 1024) (h : Fin 512) : (r30 m c).1 (ix2 n h) = (r28 m c) (ix2 n h) + addsHalf m c n h 4 0 := by
  rw [acc30]
  exact congrArg ((r28 m c) (ix2 n h) + ·) (prod_pair m c 4 0 n h _ _)
theorem at32 (n : Fin 1024) (h : Fin 512) : (r32 m c).1 (ix2 n h) = (r30 m c).1 (ix2 n h) + addsHalf m c n h 4 2 := by
  rw [acc32]
  exact congrArg ((r30 m c).1 (ix2 n h) + ·) (prod_pair m c 4 2 n h _ _)
theorem at34 (n : Fin 1024) (h : Fin 512) : (r34 m c).1 (ix2 n h) = (r32 m c).1 (ix2 n h) + addsHalf m c n h 3 2 := by
  rw [acc34]
  exact congrArg ((r32 m c).1 (ix2 n h) + ·) (prod_pair m c 3 2 n h _ _)
theorem at36 (n : Fin 1024) (h : Fin 512) : (r36 m c).1 (ix2 n h) = (r34 m c).1 (ix2 n h) + addsHalf m c n h 5 2 := by
  rw [acc36]
  exact congrArg ((r34 m c).1 (ix2 n h) + ·) (prod_pair m c 5 2 n h _ _)
theorem at37 (n : Fin 1024) (h : Fin 512) : (r37 m c) (ix2 n h) = (r36 m c).1 (ix2 n h) + addsHalf m c n h (if evn c then 3 else 5) 0 := by
  rw [acc37]
  refine congrArg ((r36 m c).1 (ix2 n h) + ·) ?_
  rw [evnW_eq]
  cases hc : evn c
  · exact prod_once m c 5 _ _ (off_odd c hc).2 n h
  · exact prod_once m c 3 _ _ (off_even c hc).2 n h

theorem origin_bij (c : Dev nD) : Function.Bijective (origin c) :=
  (show ∀ c, Function.Injective (origin c) ∧ Function.Surjective (origin c) by decide +kernel) c

theorem eNum_bij : Function.Bijective (fun p : Dev nD × Fin 4 => eNum p.1 p.2) :=
  (show Function.Injective (fun p : Dev nD × Fin 4 => eNum p.1 p.2) ∧ Function.Surjective (fun p : Dev nD × Fin 4 => eNum p.1 p.2) by decide +kernel)

/-- An entry of the accumulator is what all experts add. -/
theorem out_sum (n : Fin 1024) (h : Fin 512) : outAt m c (ix2 n h) = ∑ d : Dev nD, ∑ e : Fin 4, adds m c n h d e := by
  have hs : ∀ f : Dev nD → EReal, ∑ s : Fin 8, f (origin c s) = ∑ d, f d := fun f => (origin_bij c).sum_comp f
  have hrow : ∀ s : Fin 8, ∑ e : Fin 4, adds m c n h (origin c s) e = addsHalf m c n h s 0 + addsHalf m c n h s 2 := fun s => by
    rw [Fin.sum_univ_four, add_assoc]; rfl
  rw [← hs fun d => ∑ e : Fin 4, adds m c n h d e, Finset.sum_congr rfl fun s _ => hrow s, Fin.sum_univ_eight]
  show (r37 m c) (ix2 n h) = _
  rw [at37, at36, at34, at32, at30, at28, at26, at23, at21, at19, at17, at15, at13, at10, at8, at6]
  generalize addsHalf m c n h = f
  cases evn c
  · simp only [Bool.false_eq_true, if_false]
    abel
  · simp only [if_true]
    abel

end Cert.MoeProof

end
-- ==== Proof.Mix.lean ====
/-
# A token's mixture of two experts

One token at a time, over the extended reals: the probabilities of finite scores are positive reals; a gate is an expert's
probability over the sum of the chosen ones'; and the sum over all experts of the scaled token's products is the two
chosen experts' products, each by its share.
-/
module

public import Idealize.ShloMosaic.PureOps.Ideal
public import Idealize.ShloMosaic.Lib.IdealHost

@[expose] public section

noncomputable section

namespace Cert.MoeProof

open Idealize.ShloMosaic
open scoped BigOperators

/-- The score of an expert for a token. -/
def score (x : Fin 256 → EReal) (R : Fin 256 → Fin 32 → EReal) (e : Fin 32) : EReal := ∑ k, x k * R k e

/-- The largest score. -/
def top (s : Fin 32 → EReal) : EReal := Finset.univ.fold max (Ideal.ofBits .f32 4286578688#32) s

/-- The probability of an expert. -/
def prob (s : Fin 32 → EReal) (e : Fin 32) : EReal := Ideal.div (Ideal.exp (s e - top s)) (∑ e', Ideal.exp (s e' - top s))

/-- The probability of an expert if it is one of the two chosen. -/
def kept (p : Fin 32 → EReal) (i0 i1 : Fin 32) (e : Fin 32) : EReal := if e = i0 ∨ e = i1 then p e else 0

/-- The gate of an expert. -/
def gate (p : Fin 32 → EReal) (i0 i1 : Fin 32) (e : Fin 32) : EReal := Ideal.div (kept p i0 i1 e) (∑ e', kept p i0 i1 e')

/-- The token times an expert's weights, at a column. -/
def prod1 (x : Fin 256 → EReal) (w : Fin 256 → EReal) : EReal := ∑ k, x k * w k

theorem ofBits_bot : Ideal.ofBits .f32 4286578688#32 = ⊥ := by simp [Ideal.ofBits, Ideal.ieee]

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem score_real (x : Fin 256 → EReal) (R : Fin 256 → Fin 32 → EReal) (hx : ∀ k, ∃ r : ℝ, x k = r) (hR : ∀ k e, ∃ r : ℝ, R k e = r) (e : Fin 32) :
    ∃ r : ℝ, score x R e = r := by
  choose a ha using hx
  choose b hb using hR
  refine ⟨∑ k, a k * b k e, ?_⟩
  unfold score
  rw [← sum_coe]
  exact Finset.sum_congr rfl fun k _ => by rw [ha, hb, EReal.coe_mul]

theorem fold_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => exact .inl rfl
  | insert a s ha ih =>
    rw [Finset.fold_insert ha]
    rcases ih with h | ⟨r, h⟩
    · rw [h]; exact .inr ⟨f a, by simp⟩
    · rw [h]; exact .inr ⟨max (f a) r, by rw [EReal.coe_strictMono.monotone.map_max]⟩

theorem top_real (s : Fin 32 → ℝ) : ∃ r : ℝ, top (fun e => (s e : EReal)) = r := by
  unfold top
  rw [ofBits_bot]
  rcases fold_real Finset.univ s with h | h
  · have : (s 0 : EReal) ≤ Finset.univ.fold max (⊥ : EReal) (fun i => (s i : EReal)) :=
      (Finset.le_fold_max _).mpr (.inr ⟨0, Finset.mem_univ _, le_rfl⟩)
    rw [h] at this
    exact absurd this (by simp)
  · exact h

theorem prob_pos (s : Fin 32 → EReal) (hs : ∀ e, ∃ r : ℝ, s e = r) (e : Fin 32) : ∃ r : ℝ, 0 < r ∧ prob s e = r := by
  choose a ha using hs
  obtain rfl : s = fun e => (a e : EReal) := funext ha
  obtain ⟨t, ht⟩ := top_real a
  unfold prob
  rw [ht]
  have hexp : ∀ e', Ideal.exp ((a e' : EReal) - (t : EReal)) = (Real.exp (a e' - t) : EReal) := fun e' => by
    rw [← EReal.coe_sub, Ideal.exp_coe]
  simp only [hexp]
  rw [sum_coe]
  have hpos : 0 < ∑ e' : Fin 32, Real.exp (a e' - t) := Finset.sum_pos (fun _ _ => Real.exp_pos _) ⟨0, Finset.mem_univ _⟩
  rw [Ideal.div_coe hpos.ne', ← EReal.coe_mul]
  exact ⟨_, mul_pos (Real.exp_pos _) (one_div_pos.mpr hpos), rfl⟩

theorem sum_kept_eq (p : Fin 32 → EReal) (i0 : Fin 32) (e' : Fin 32) : ∑ e, kept p i0 e' e = if i0 = e' then p i0 else p i0 + p e' := by
  unfold kept
  by_cases h : i0 = e'
  · subst h
    rw [if_pos rfl]
    simp only [or_self]
    rw [Finset.sum_ite_eq' Finset.univ i0 p, if_pos (Finset.mem_univ _)]
  · rw [if_neg h, ← Finset.sum_filter, show (Finset.univ.filter fun e => e = i0 ∨ e = e') = {i0, e'} from by ext; simp, Finset.sum_pair h]

theorem mul_sum_real {ι : Type} (s : Finset ι) (g : ℝ) (hg : 0 ≤ g) (f : ι → EReal) : ∑ i ∈ s, (g : EReal) * f i = (g : EReal) * ∑ i ∈ s, f i := by
  classical
  induction s using Finset.induction_on with
  | empty => simp
  | insert a s ha ih => rw [Finset.sum_insert ha, Finset.sum_insert ha, ih, EReal.left_distrib_of_nonneg_of_ne_top (by exact_mod_cast hg) (EReal.coe_ne_top g)]

/-- The sum over the experts of the scaled token's products is the chosen experts' products by their shares. -/
theorem mixture (p : Fin 32 → EReal) (hp : ∀ e, ∃ r : ℝ, 0 < r ∧ p e = r) (i0 i1 : Fin 32) (x : Fin 256 → EReal) (W : Fin 32 → Fin 256 → EReal) :
    ∑ e, ∑ k, (x k * gate p i0 i1 e) * W e k
      = Ideal.div (p i0) (p i0 + p i1) * prod1 x (W i0) + Ideal.div (p i1) (p i0 + p i1) * prod1 x (W i1) := by
  choose a ha hpa using hp
  obtain rfl : p = fun e => (a e : EReal) := funext hpa
  set S : ℝ := if i0 = i1 then a i0 else a i0 + a i1 with hS
  have hSpos : 0 < S := by
    rw [hS]; split_ifs
    · exact ha i0
    · exact add_pos (ha i0) (ha i1)
  have hsum : ∑ e, kept (fun e => (a e : EReal)) i0 i1 e = (S : EReal) := by
    rw [sum_kept_eq, hS]
    split_ifs
    · rfl
    · rw [EReal.coe_add]
  have hgate : ∀ e, gate (fun e => (a e : EReal)) i0 i1 e = ((if e = i0 ∨ e = i1 then a e / S else 0 : ℝ) : EReal) := fun e => by
    unfold gate
    rw [hsum, Ideal.div_coe hSpos.ne']
    unfold kept
    split_ifs
    · rw [← EReal.coe_mul, mul_one_div]
    · simp
  have hnn : ∀ e, (0 : ℝ) ≤ if e = i0 ∨ e = i1 then a e / S else 0 := fun e => by
    split_ifs
    · exact (div_pos (ha e) hSpos).le
    · exact le_rfl
  have hterm : ∀ e, ∑ k, (x k * gate (fun e => (a e : EReal)) i0 i1 e) * W e k = if e = i0 ∨ e = i1 then ((a e / S : ℝ) : EReal) * prod1 x (W e) else 0 := fun e => by
    have h1 : ∑ k, (x k * gate (fun e => (a e : EReal)) i0 i1 e) * W e k
        = ((if e = i0 ∨ e = i1 then a e / S else 0 : ℝ) : EReal) * prod1 x (W e) := by
      unfold prod1
      rw [← mul_sum_real _ _ (hnn e)]
      exact Finset.sum_congr rfl fun k _ => by rw [hgate, mul_comm (x k), mul_assoc]
    rw [h1]
    split_ifs
    · rfl
    · simp
  rw [Finset.sum_congr rfl fun e _ => hterm e, ← EReal.coe_add, Ideal.div_coe (add_pos (ha i0) (ha i1)).ne', Ideal.div_coe (add_pos (ha i0) (ha i1)).ne',
    ← EReal.coe_mul, ← EReal.coe_mul]
  by_cases h : i0 = i1
  · subst h
    simp only [or_self]
    rw [Finset.sum_ite_eq' Finset.univ i0 (fun e => ((a e / S : ℝ) : EReal) * prod1 x (W e)), if_pos (Finset.mem_univ _), hS, if_pos rfl]
    have hr : (0 : ℝ) ≤ a i0 * (1 / (a i0 + a i0)) := (mul_pos (ha i0) (one_div_pos.mpr (add_pos (ha i0) (ha i0)))).le
    rw [← EReal.right_distrib_of_nonneg (by exact_mod_cast hr) (by exact_mod_cast hr), ← EReal.coe_add]
    congr 2
    have := (ha i0).ne'
    field_simp
  · rw [← Finset.sum_filter, show (Finset.univ.filter fun e => e = i0 ∨ e = i1) = {i0, i1} from by ext; simp, Finset.sum_pair h, hS, if_neg h]
    simp only [mul_one_div]

end Cert.MoeProof

end
-- ==== Proof.Entry.lean ====
/-
# The kernel's result in terms of its arguments

What the run leaves in the result array, entry by entry: the two chosen experts' products, each by its share.
-/
module

public import proofs.«01_k».proof.Proof.Total
public import proofs.«01_k».proof.Proof.Mix
public import proofs.«01_k».proof.Proof.Run

@[expose] public section

set_option maxRecDepth 65536

noncomputable section

namespace Cert.MoeProof

open Cert.KernelIdeal Cert.KernelIdeal.Gen
open Idealize.ShloMosaic
open Idealize.ShloMosaic.TcCoe
open Idealize.SL.Sem
open scoped BigOperators

variable (m : (ℓ : Loc nD τ sig) → Buf (Elt Ideal) ℓ) (ρ : Dev nD → PrngReg) (c : Dev nD)

/-! ## The blocks are the arguments -/

/-- The device's tokens, the router's weights, the tokens' experts, the device's experts' weights. -/
abbrev aX (c : Dev nD) : Vec Ideal S1024x256 .bf16 := m ((c : Thread nD τ).loc main_arg0)
abbrev aR (c : Dev nD) : Vec Ideal S256x32 .bf16 := m ((c : Thread nD τ).loc main_arg1)
abbrev aI (c : Dev nD) : Vec Ideal S1024x2 .i32 := m ((c : Thread nD τ).loc main_arg2)
abbrev aW (c : Dev nD) : Vec Ideal S4x256x512 .bf16 := m ((c : Thread nD τ).loc main_arg3)

theorem iblk0 : (iblk m c 0 t0_0 : Vec Ideal S1024x256 .bf16) = aX m c := by
  funext i
  refine Eq.trans (b := aX m c (((cfg0.win 0).blk t0_0).view.emb i)) rfl (congrArg (aX m c) ?_)
  funext a; fin_cases a <;> refine Fin.ext ?_
  · show 0 + 1 * (i 0).val = (i 0).val; omega
  · show 0 + 1 * (i 1).val = (i 1).val; omega
theorem iblk1 : (iblk m c 1 t0_0 : Vec Ideal S256x32 .bf16) = aR m c := by
  funext i
  refine Eq.trans (b := aR m c (((cfg0.win 1).blk t0_0).view.emb i)) rfl (congrArg (aR m c) ?_)
  funext a; fin_cases a <;> refine Fin.ext ?_
  · show 0 + 1 * (i 0).val = (i 0).val; omega
  · show 0 + 1 * (i 1).val = (i 1).val; omega
theorem iblk2 : (iblk m c 2 t0_0 : Vec Ideal S1024x2 .i32) = aI m c := by
  funext i
  refine Eq.trans (b := aI m c (((cfg0.win 2).blk t0_0).view.emb i)) rfl (congrArg (aI m c) ?_)
  funext a; fin_cases a <;> refine Fin.ext ?_
  · show 0 + 1 * (i 0).val = (i 0).val; omega
  · show 0 + 1 * (i 1).val = (i 1).val; omega
theorem iblk3 : (iblk m c 3 t0_0 : Vec Ideal S4x256x512 .bf16) = aW m c := by
  funext i
  refine Eq.trans (b := aW m c (((cfg0.win 3).blk t0_0).view.emb i)) rfl (congrArg (aW m c) ?_)
  funext a; fin_cases a <;> refine Fin.ext ?_
  · show 0 + 1 * (i 0).val = (i 0).val; omega
  · show 0 + 1 * (i 1).val = (i 1).val; omega
  · show 0 + 1 * (i 2).val = (i 2).val; omega

/-! ## The gates -/

/-- The kept probability as the body selects it. -/
def keptW (p : Fin 32 → EReal) (i0 i1 : BitVec 32) (e : Fin 32) : EReal :=
  Scalar.select (IntOp.ori (IntOp.cmpi .eq (BitVec.ofNat 32 e.val) i0) (IntOp.cmpi .eq (BitVec.ofNat 32 e.val) i1)) (p e) 0

theorem keptW_eq (p : Fin 32 → EReal) (e0 e1 e : Fin 32) : keptW p (BitVec.ofNat 32 e0.val) (BitVec.ofNat 32 e1.val) e = kept p e0 e1 e := by
  have hd : ∀ x y : Fin 32, IntOp.cmpi CmpIPredicate.eq (BitVec.ofNat 32 x.val) (BitVec.ofNat 32 y.val) = if x = y then 1#1 else 0#1 := by decide +kernel
  unfold keptW kept
  rw [hd, hd]
  by_cases h0 : e = e0 <;> by_cases h1 : e = e1
  · rw [if_pos h0, if_pos h1, if_pos (.inl h0)]; rfl
  · rw [if_pos h0, if_neg h1, if_pos (.inl h0)]; rfl
  · rw [if_neg h0, if_pos h1, if_pos (.inr h1)]; rfl
  · rw [if_neg h0, if_neg h1, if_neg (not_or.mpr ⟨h0, h1⟩)]; rfl

theorem pay3_at (x : Vec Ideal S1024x256 .bf16) (R : Vec Ideal S256x32 .bf16) (i0 i1 : Vec Ideal S1024x1 .i32) (n : Fin 1024) (e : Fin 32) :
    k0_pay3 x R i0 i1 (ix2 n e)
      = Ideal.div (keptW (prob (score (fun k => x (ix2 n k)) (fun k e => R (ix2 k e)))) (i0 (ix2 n 0)) (i1 (ix2 n 0)) e)
          (∑ e', keptW (prob (score (fun k => x (ix2 n k)) (fun k e => R (ix2 k e)))) (i0 (ix2 n 0)) (i1 (ix2 n 0)) e') := by
  unfold keptW prob top score
  pointwise [k0_pay3, k0_pay2]

theorem pay2_at (x : Vec Ideal S1024x256 .bf16) (n : Fin 1024) (k : Fin 256) : k0_pay2 x (ix2 n k) = x (ix2 n k) := by
  pointwise [k0_pay2]

theorem xBlk_at (n : Fin 1024) (k : Fin 256) : xBlk m c (ix2 n k) = aX m c (ix2 n k) := by
  unfold xBlk
  rw [pay2_at, iblk0, View.readAt_apply]
  refine (cast_eq _ _).trans (congrArg (aX m c) ?_)
  funext a; fin_cases a <;> refine Fin.ext ?_
  · show 0 + 1 * n.val = n.val; omega
  · show 0 + 1 * k.val = k.val; omega

/-- The scores' probabilities of a token of the device. -/
abbrev pr (n : Fin 1024) : Fin 32 → EReal := prob (score (fun k => aX m c (ix2 n k)) (fun k e => aR m c (ix2 k e)))

theorem gates_at (n : Fin 1024) (e0 e1 : Fin 32) (h0 : aI m c (ix2 n 0) = BitVec.ofNat 32 e0.val) (h1 : aI m c (ix2 n 1) = BitVec.ofNat 32 e1.val) (e : Fin 32) :
    gates m c (ix2 n e) = gate (pr m c n) e0 e1 e := by
  unfold gates
  rw [pay3_at]
  have hx : ∀ (k : Fin 256), (((Memref.whole cc0_stg0_0).view.readAt (Elt Ideal) (Rect.unit (s := S1024x256) ![0, 0] S1024x256.size inb_S1024x256_S1024x256_0_0).toLoadRect (iblk m c 0 t0_0) : Vec Ideal S1024x256 .bf16)) (ix2 n k) = aX m c (ix2 n k) := by
    intro k
    rw [iblk0, View.readAt_apply]
    refine (cast_eq _ _).trans (congrArg (aX m c) ?_)
    funext a; fin_cases a <;> refine Fin.ext ?_
    · show 0 + 1 * n.val = n.val; omega
    · show 0 + 1 * k.val = k.val; omega
  have hr : ∀ (k : Fin 256) (e : Fin 32), (((Memref.whole cc0_stg1_0).view.readAt (Elt Ideal) (Rect.unit (s := S256x32) ![0, 0] S256x32.size inb_S256x32_S256x32_0_0).toLoadRect (iblk m c 1 t0_0) : Vec Ideal S256x32 .bf16)) (ix2 k e) = aR m c (ix2 k e) := by
    intro k e
    rw [iblk1, View.readAt_apply]
    refine (cast_eq _ _).trans (congrArg (aR m c) ?_)
    funext a; fin_cases a <;> refine Fin.ext ?_
    · show 0 + 1 * k.val = k.val; omega
    · show 0 + 1 * e.val = e.val; omega
  have hi0 : (((Memref.whole cc0_stg2_0).view.readAt (Elt Ideal) (Rect.unit (s := S1024x2) ![0, 0] S1024x1.size inb_S1024x2_S1024x1_0_0).toLoadRect (iblk m c 2 t0_0) : Vec Ideal S1024x1 .i32)) (ix2 n 0) = aI m c (ix2 n 0) := by
    rw [iblk2, View.readAt_apply]
    refine (cast_eq _ _).trans (congrArg (aI m c) ?_)
    funext a; fin_cases a <;> refine Fin.ext ?_
    · show 0 + 1 * n.val = n.val; omega
    · rfl
  have hi1 : (((Memref.whole cc0_stg2_0).view.readAt (Elt Ideal) (Rect.unit (s := S1024x2) ![0, 1] S1024x1.size inb_S1024x2_S1024x1_0_1).toLoadRect (iblk m c 2 t0_0) : Vec Ideal S1024x1 .i32)) (ix2 n 0) = aI m c (ix2 n 1) := by
    rw [iblk2, View.readAt_apply]
    refine (cast_eq _ _).trans (congrArg (aI m c) ?_)
    funext a; fin_cases a <;> refine Fin.ext ?_
    · show 0 + 1 * n.val = n.val; omega
    · rfl
  simp only [hx, hr]
  rw [hi0, hi1, h0, h1]
  simp only [keptW_eq]
  rfl

/-! ## The result -/

theorem flushed_out (t : Fin cfg0.N) : (dats m ρ 0 c).flushed 4 t = ((cfg0.win 4).blk t).view.read (Elt Ideal) (outAt m c) := by
  obtain rfl := fin_N0 t
  funext i
  have hr : ((cfg0.win 4).blk t0_0).view.read (Elt Ideal) (outAt m c) i = outAt m c i := by
    refine (cast_eq _ _).trans (congrArg (outAt m c) ?_)
    funext a; fin_cases a <;> refine Fin.ext ?_
    · show 0 + 1 * (i 0).val = (i 0).val; omega
    · show 0 + 1 * (i 1).val = (i 1).val; omega
  rw [hr]
  rfl

/-- The result array ends as the accumulator. -/
theorem finalA_out : finalA m ρ c 4 = outAt m c := by
  refine (dats m ρ 0 c).arrAt_eq_of_cover 4 (outAt m c) (fun t _ => flushed_out m ρ c t) fun i => ⟨t0_0, flush0_4 _, ?_⟩
  have hi : i = ((cfg0.win 4).blk t0_0).view.emb i := by
    funext a; fin_cases a <;> refine Fin.ext ?_
    · show (i 0).val = 0 + 1 * (i 0).val; omega
    · show (i 1).val = 0 + 1 * (i 1).val; omega
  rw [hi]
  exact View.emb_mem_set _ _

/-- The weights of an expert of all thirty-two. -/
def wAll (e : Fin 32) (h : Fin 512) (k : Fin 256) : EReal := aW m ⟨e.val / 4, by show e.val / 4 < 8; omega⟩ (ix3 ⟨e.val % 4, by omega⟩ k h)

theorem wAll_eNum (d : Dev nD) (e : Fin 4) (h : Fin 512) (k : Fin 256) : wAll m (eNum d e) h k = aW m d (ix3 e k h) := by
  unfold wAll eNum
  have h1 : (⟨(4 * d.val + e.val) / 4, by have : d.val < 8 := d.isLt; show _ < 8; omega⟩ : Dev nD) = d := Fin.ext (by show (4 * d.val + e.val) / 4 = d.val; omega)
  have h2 : (⟨(4 * d.val + e.val) % 4, by omega⟩ : Fin 4) = e := Fin.ext (by show (4 * d.val + e.val) % 4 = e.val; omega)
  exact congrArg₂ (fun (d : Dev nD) (e : Fin 4) => aW m d (ix3 e k h)) h1 h2

/-- An entry of the result: the two chosen experts' products by their shares. -/
theorem out_entry (n : Fin 1024) (h : Fin 512) (e0 e1 : Fin 32)
    (h0 : aI m c (ix2 n 0) = BitVec.ofNat 32 e0.val) (h1 : aI m c (ix2 n 1) = BitVec.ofNat 32 e1.val)
    (hx : ∀ k, ∃ r : ℝ, aX m c (ix2 n k) = r) (hR : ∀ k e, ∃ r : ℝ, aR m c (ix2 k e) = r) :
    (outAt m c (ix2 n h) : EReal)
      = Ideal.div (pr m c n e0) (pr m c n e0 + pr m c n e1) * prod1 (fun k => aX m c (ix2 n k)) (wAll m e0 h)
        + Ideal.div (pr m c n e1) (pr m c n e0 + pr m c n e1) * prod1 (fun k => aX m c (ix2 n k)) (wAll m e1 h) := by
  rw [out_sum, ← mixture (pr m c n) (fun e => prob_pos _ (fun e => score_real _ _ hx hR e) e) e0 e1 _ (fun e => wAll m e h)]
  rw [← eNum_bij.sum_comp, Fintype.sum_prod_type]
  refine Finset.sum_congr rfl fun d _ => Finset.sum_congr rfl fun e _ => ?_
  unfold adds part
  refine Finset.sum_congr rfl fun k _ => ?_
  rw [xBlk_at, gates_at m c n e0 e1 h0 h1, wAll_eNum]
  unfold wDev
  rw [iblk3]

end Cert.MoeProof

end
-- ==== Proof.RefValue.lean ====
/-
# The reference's result, entry by entry

For a token whose two experts exist, an entry is the two experts' products, each by its share.
-/
module

public import proofs.«01_k».proof.Proof.Mix
public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

set_option maxRecDepth 65536

noncomputable section

namespace Cert.MoeProof.Ref

open Cert.ReferenceIdeal Cert.ReferenceIdeal.Gen
open Idealize.ShloMosaic
open Idealize.ShloMosaic.TcCoe
open Idealize.SL.Sem
open scoped BigOperators

/-! ## The two ways it picks -/

section Pick
variable {α : Type}

/-- A number of an expert, read signed and kept within the experts, is itself. -/
theorem clip_num (e : Fin 32) : min (BitVec.ofNat 32 e.val).toInt.toNat 31 = e.val :=
  (show ∀ e : Fin 32, min (BitVec.ofNat 32 e.val).toInt.toNat 31 = e.val by decide +kernel) e

/-- Along the experts, a token's own row. -/
theorem pick_col (P : S8192x32.Idx → α) (I : IVec S8192x2x1 32) (n : Fin 8192) (j : Fin 2) (e : Fin 32) (hI : I (ix3 n j 0) = BitVec.ofNat 32 e.val) :
    Host.gather gather_S8192x32_S8192x2x1_S8192x2_n_1_0_0_1_2_11 P I (ix2 n j) = P (ix2 n e) := by
  set d := gather_S8192x32_S8192x2x1_S8192x2_n_1_0_0_1_2_11 with hd
  unfold Host.gather
  congr 1
  funext a
  refine Fin.ext ?_
  show d.start (ix2 n j) I a + d.batchCoord (ix2 n j) a + d.offCoord (ix2 n j) a = _
  fin_cases a
  · have h1 : d.start (ix2 n j) I (0 : Fin 2) = 0 := d.start_batching _ _ _ (List.mem_singleton.mpr rfl)
    have h2 : d.offCoord (ix2 n j) (0 : Fin 2) = 0 := d.offCoord_eq_zero _ _ fun h => ((d.mem_sKept _).mp h).2 (List.mem_singleton.mpr rfl)
    have h3 : d.batchCoord (ix2 n j) (0 : Fin 2) = n.val := by
      unfold GatherDims.batchCoord
      rw [dif_pos (show (0 : Fin 2) ∈ d.operandBatchingDims from List.mem_singleton.mpr rfl)]
      rfl
    show d.start (ix2 n j) I (0 : Fin 2) + d.batchCoord (ix2 n j) (0 : Fin 2) + d.offCoord (ix2 n j) (0 : Fin 2) = n.val
    rw [h1, h2, h3]; omega
  · have h1 : d.batchCoord (ix2 n j) (1 : Fin 2) = 0 := d.batchCoord_eq_zero _ _ (by rw [hd]; decide)
    have h2 : d.offCoord (ix2 n j) (1 : Fin 2) = 0 := d.offCoord_eq_zero _ _ fun h => ((d.mem_sKept _).mp h).1 (List.mem_singleton.mpr rfl)
    have h3 : d.start (ix2 n j) I (1 : Fin 2) = e.val := by
      unfold GatherDims.start
      rw [dif_pos (show (1 : Fin 2) ∈ d.startIndexMap from List.mem_singleton.mpr rfl)]
      have hs : d.siIdx (ix2 n j) ⟨List.idxOf (1 : Fin 2) d.startIndexMap, List.idxOf_lt_length_iff.2 (List.mem_singleton.mpr rfl)⟩ = ix3 n j 0 := by
        funext b; refine Fin.ext ?_
        fin_cases b <;> rfl
      rw [hs, hI]
      exact clip_num e
    show d.start (ix2 n j) I (1 : Fin 2) + d.batchCoord (ix2 n j) (1 : Fin 2) + d.offCoord (ix2 n j) (1 : Fin 2) = e.val
    rw [h1, h2, h3]; omega

/-- A token's expert's weights. -/
theorem pick_row (W : S32x256x512.Idx → α) (I : IVec S8192x1 32) (n : Fin 8192) (k : Fin 256) (h : Fin 512) (e : Fin 32) (hI : I (ix2 n 0) = BitVec.ofNat 32 e.val) :
    Host.gather gather_S32x256x512_S8192x1_S8192x256x512_12_0_n_n_0_1_1256512 W I (ix3 n k h) = W (ix3 e k h) := by
  set d := gather_S32x256x512_S8192x1_S8192x256x512_12_0_n_n_0_1_1256512 with hd
  unfold Host.gather
  congr 1
  funext a
  refine Fin.ext ?_
  show d.start (ix3 n k h) I a + d.batchCoord (ix3 n k h) a + d.offCoord (ix3 n k h) a = _
  have hb : d.batchCoord (ix3 n k h) a = 0 := d.batchCoord_eq_zero _ _ List.not_mem_nil
  rw [hb]
  fin_cases a
  · have h2 : d.offCoord (ix3 n k h) (0 : Fin 3) = 0 := d.offCoord_eq_zero _ _ fun h => ((d.mem_sKept _).mp h).1 (List.mem_singleton.mpr rfl)
    have h3 : d.start (ix3 n k h) I (0 : Fin 3) = e.val := by
      unfold GatherDims.start
      rw [dif_pos (show (0 : Fin 3) ∈ d.startIndexMap from List.mem_singleton.mpr rfl)]
      have hs : d.siIdx (ix3 n k h) ⟨List.idxOf (0 : Fin 3) d.startIndexMap, List.idxOf_lt_length_iff.2 (List.mem_singleton.mpr rfl)⟩ = ix2 n 0 := by
        funext b; refine Fin.ext ?_
        fin_cases b <;> rfl
      rw [hs, hI]
      exact clip_num e
    show d.start (ix3 n k h) I (0 : Fin 3) + 0 + d.offCoord (ix3 n k h) (0 : Fin 3) = e.val
    rw [h2, h3]; omega
  · have h1 : d.start (ix3 n k h) I (1 : Fin 3) = 0 := by
      unfold GatherDims.start
      rw [dif_neg (by rw [hd]; decide)]
    have h2 : d.offCoord (ix3 n k h) (1 : Fin 3) = k.val := by
      unfold GatherDims.offCoord
      rw [dif_pos (by rw [hd]; decide)]
      rfl
    show d.start (ix3 n k h) I (1 : Fin 3) + 0 + d.offCoord (ix3 n k h) (1 : Fin 3) = k.val
    rw [h1, h2]; omega
  · have h1 : d.start (ix3 n k h) I (2 : Fin 3) = 0 := by
      unfold GatherDims.start
      rw [dif_neg (by rw [hd]; decide)]
    have h2 : d.offCoord (ix3 n k h) (2 : Fin 3) = h.val := by
      unfold GatherDims.offCoord
      rw [dif_pos (by rw [hd]; decide)]
      rfl
    show d.start (ix3 n k h) I (2 : Fin 3) + 0 + d.offCoord (ix3 n k h) (2 : Fin 3) = h.val
    rw [h1, h2]; omega

end Pick

/-! ## Its stages -/

/-- The tokens' scores. -/
def scores (X : FVec Ideal S8192x256 .bf16) (R : FVec Ideal S256x32 .bf16) : FVec Ideal S8192x32 .f32 :=
  Host.dotGeneral dot_S8192x256_S256x32_S8192x32_1_0_0_1_n_n none (extf .f32 X bitsLt_bf16_f32) (extf .f32 R bitsLt_bf16_f32)

/-- The exponentials of the scores under the largest. -/
def exps (s : FVec Ideal S8192x32 .f32) : FVec Ideal S8192x32 .f32 :=
  Host.exp (subf s (broadcastInDim S8192x32 ![0, 1] bcast_S8192x1_S8192x32_0_1 (broadcastInDim S8192x1 ![0] bcast_S8192_S8192x1_0 (Host.reduce FloatOps.maximumf s (constant S_ .f32 0xFF800000#32) reducesTo_S8192x32_S8192_d1 h_S_))))

/-- The probabilities. -/
def probs (x : FVec Ideal S8192x32 .f32) : FVec Ideal S8192x32 .f32 :=
  Host.divf x (broadcastInDim S8192x32 ![0, 1] bcast_S8192x1_S8192x32_0_1 (broadcastInDim S8192x1 ![0] bcast_S8192_S8192x1_0 (Host.reduceAdd x (constant S_ .f32 0x00000000#32) reducesTo_S8192x32_S8192_d1 h_S_)))

/-- The experts' numbers, negative ones counted from the end. -/
def wrapped (I : IVec S8192x2 32) : IVec S8192x2x1 32 :=
  shapeCast _ (select (cmpi .slt I (broadcastInDim S8192x2 ![] bcast_S_S8192x2 (constantI S_ 32 0#32))) (addi I (broadcastInDim S8192x2 ![] bcast_S_S8192x2 (constantI S_ 32 32#32))) I) shapeCasts_S8192x2_S8192x2x1

/-- The chosen experts' probabilities. -/
def chosen (P : FVec Ideal S8192x32 .f32) (I : IVec S8192x2 32) : FVec Ideal S8192x2 .f32 :=
  Host.gather gather_S8192x32_S8192x2x1_S8192x2_n_1_0_0_1_2_11 P (wrapped I)

/-- The first and the second chosen expert's weights, token by token. -/
def rows0 (W : FVec Ideal S32x256x512 .bf16) (I : IVec S8192x2 32) : FVec Ideal S8192x256x512 .f32 :=
  Host.gather gather_S32x256x512_S8192x1_S8192x256x512_12_0_n_n_0_1_1256512 (extf .f32 W bitsLt_bf16_f32) (broadcastInDim S8192x1 ![0] bcast_S8192_S8192x1_0 (shapeCast _ (extractStridedSlice S8192x1 ![0, 0] I slices_S8192x2_S8192x1_0_0) shapeCasts_S8192x1_S8192))
def rows1 (W : FVec Ideal S32x256x512 .bf16) (I : IVec S8192x2 32) : FVec Ideal S8192x256x512 .f32 :=
  Host.gather gather_S32x256x512_S8192x1_S8192x256x512_12_0_n_n_0_1_1256512 (extf .f32 W bitsLt_bf16_f32) (broadcastInDim S8192x1 ![0] bcast_S8192_S8192x1_0 (shapeCast _ (extractStridedSlice S8192x1 ![0, 1] I slices_S8192x2_S8192x1_0_1) shapeCasts_S8192x1_S8192))

/-- The result of them. -/
def mixed (X : FVec Ideal S8192x256 .bf16) (G : FVec Ideal S8192x2 .f32) (V0 V1 : FVec Ideal S8192x256x512 .f32) : FVec Ideal S8192x512 .f32 :=
  addf (mulf (broadcastInDim S8192x512 ![0, 1] bcast_S8192x1_S8192x512_0_1 (Host.divf (extractStridedSlice S8192x1 ![0, 0] G slices_S8192x2_S8192x1_0_0) (addf (extractStridedSlice S8192x1 ![0, 0] G slices_S8192x2_S8192x1_0_0) (extractStridedSlice S8192x1 ![0, 1] G slices_S8192x2_S8192x1_0_1))))
      (Host.dotGeneral dot_S8192x256_S8192x256x512_S8192x512_1_1_n_2_0_0 none (extf .f32 X bitsLt_bf16_f32) V0))
    (mulf (broadcastInDim S8192x512 ![0, 1] bcast_S8192x1_S8192x512_0_1 (Host.divf (extractStridedSlice S8192x1 ![0, 1] G slices_S8192x2_S8192x1_0_1) (addf (extractStridedSlice S8192x1 ![0, 0] G slices_S8192x2_S8192x1_0_0) (extractStridedSlice S8192x1 ![0, 1] G slices_S8192x2_S8192x1_0_1))))
      (Host.dotGeneral dot_S8192x256_S8192x256x512_S8192x512_1_1_n_2_0_0 none (extf .f32 X bitsLt_bf16_f32) V1))

theorem scores_at (X : FVec Ideal S8192x256 .bf16) (R : FVec Ideal S256x32 .bf16) (n : Fin 8192) (e : Fin 32) :
    scores X R (ix2 n e) = score (fun k => X (ix2 n k)) (fun k e => R (ix2 k e)) e := by
  unfold score
  pointwise [scores]

theorem exps_at (s : FVec Ideal S8192x32 .f32) (n : Fin 8192) (e : Fin 32) :
    exps s (ix2 n e) = Ideal.exp (s (ix2 n e) - top (fun e => s (ix2 n e))) := by
  unfold top
  pointwise [exps]

theorem probs_at (x : FVec Ideal S8192x32 .f32) (n : Fin 8192) (e : Fin 32) :
    probs x (ix2 n e) = Ideal.div (x (ix2 n e)) (∑ e', x (ix2 n e')) := by
  pointwise [probs]

theorem wrapped_at (I : IVec S8192x2 32) (n : Fin 8192) (j : Fin 2) (e : Fin 32) (hI : I (ix2 n j) = BitVec.ofNat 32 e.val) :
    wrapped I (ix3 n j 0) = BitVec.ofNat 32 e.val := by
  have h : wrapped I (ix3 n j 0) = Scalar.select (IntOp.cmpi .slt (I (ix2 n j)) 0#32) (IntOp.addi (I (ix2 n j)) 32#32) (I (ix2 n j)) := by
    pointwise [wrapped]
  rw [h, hI]
  exact (show ∀ e : Fin 32, Scalar.select (IntOp.cmpi .slt (BitVec.ofNat 32 e.val) 0#32) (IntOp.addi (BitVec.ofNat 32 e.val) 32#32) (BitVec.ofNat 32 e.val) = BitVec.ofNat 32 e.val by decide +kernel) e

theorem mixed_at (X : FVec Ideal S8192x256 .bf16) (G : FVec Ideal S8192x2 .f32) (V0 V1 : FVec Ideal S8192x256x512 .f32) (n : Fin 8192) (h : Fin 512) :
    mixed X G V0 V1 (ix2 n h)
      = Ideal.div (G (ix2 n 0)) (G (ix2 n 0) + G (ix2 n 1)) * prod1 (fun k => X (ix2 n k)) (fun k => V0 (ix3 n k h))
        + Ideal.div (G (ix2 n 1)) (G (ix2 n 0) + G (ix2 n 1)) * prod1 (fun k => X (ix2 n k)) (fun k => V1 (ix3 n k h)) := by
  unfold prod1
  pointwise [mixed]

theorem rows0_at (W : FVec Ideal S32x256x512 .bf16) (I : IVec S8192x2 32) (n : Fin 8192) (k : Fin 256) (h : Fin 512) (e : Fin 32) (hI : I (ix2 n 0) = BitVec.ofNat 32 e.val) :
    rows0 W I (ix3 n k h) = W (ix3 e k h) := by
  unfold rows0
  rw [pick_row _ _ n k h e]
  · pointwise []
  · rw [← hI]; pointwise []

theorem rows1_at (W : FVec Ideal S32x256x512 .bf16) (I : IVec S8192x2 32) (n : Fin 8192) (k : Fin 256) (h : Fin 512) (e : Fin 32) (hI : I (ix2 n 1) = BitVec.ofNat 32 e.val) :
    rows1 W I (ix3 n k h) = W (ix3 e k h) := by
  unfold rows1
  rw [pick_row _ _ n k h e]
  · pointwise []
  · rw [← hI]; pointwise []

/-! ## The result -/

variable (m : (ℓ : Loc nD τ sig) → Buf (Elt Ideal) ℓ) (c : Dev nD)

abbrev aX : Vec Ideal S8192x256 .bf16 := m ((c : Thread nD τ).loc main_arg0)
abbrev aR : Vec Ideal S256x32 .bf16 := m ((c : Thread nD τ).loc main_arg1)
abbrev aI : Vec Ideal S8192x2 .i32 := m ((c : Thread nD τ).loc main_arg2)
abbrev aW : Vec Ideal S32x256x512 .bf16 := m ((c : Thread nD τ).loc main_arg3)

theorem res_eq : Value.res_out0 m c = mixed (aX m c) (chosen (probs (exps (scores (aX m c) (aR m c)))) (aI m c)) (rows0 (aW m c) (aI m c)) (rows1 (aW m c) (aI m c)) := by
  unfold Value.res_out0 Value.res_main_v31
  rfl

/-- The probabilities of a token's scores. -/
abbrev pr (n : Fin 8192) : Fin 32 → EReal := prob (score (fun k => aX m c (ix2 n k)) (fun k e => aR m c (ix2 k e)))

theorem chosen_at (n : Fin 8192) (j : Fin 2) (e : Fin 32) (hI : aI m c (ix2 n j) = BitVec.ofNat 32 e.val) :
    chosen (probs (exps (scores (aX m c) (aR m c)))) (aI m c) (ix2 n j) = pr m c n e := by
  unfold chosen
  rw [pick_col _ _ n j e (wrapped_at _ n j e hI), probs_at]
  simp only [exps_at, scores_at]
  rfl

/-- An entry of the result: the two chosen experts' products by their shares. -/
theorem res_entry (n : Fin 8192) (h : Fin 512) (e0 e1 : Fin 32)
    (h0 : aI m c (ix2 n 0) = BitVec.ofNat 32 e0.val) (h1 : aI m c (ix2 n 1) = BitVec.ofNat 32 e1.val) :
    (Value.res_out0 m c (ix2 n h) : EReal)
      = Ideal.div (pr m c n e0) (pr m c n e0 + pr m c n e1) * prod1 (fun k => aX m c (ix2 n k)) (fun k => aW m c (ix3 e0 k h))
        + Ideal.div (pr m c n e1) (pr m c n e0 + pr m c n e1) * prod1 (fun k => aX m c (ix2 n k)) (fun k => aW m c (ix3 e1 k h)) := by
  rw [res_eq, mixed_at, chosen_at m c n 0 e0 h0, chosen_at m c n 1 e1 h1]
  simp only [rows0_at _ _ n _ h e0 h0, rows1_at _ _ n _ h e1 h1]

end Cert.MoeProof.Ref

end
-- ==== Proof.Algebraic.lean ====
/-
# The kernel computes the reference

What the precondition says of each word; where a device's blocks lie in the whole arrays; and the two results entry by
entry, which are the same mixture of the same two experts.
-/
module

public import proofs.«01_k».proof.Defs
public import proofs.«01_k».proof.Proof.Entry
public import proofs.«01_k».proof.Proof.RefValue
public import proofs.«01_k».proof.Proof.Frames
public import Idealize.ShloMosaic.Lib.Quiescent
public import Idealize.ShloMosaic.Lib.Layout

@[expose] public section

set_option maxRecDepth 65536

noncomputable section

namespace Cert.MoeProof

open Idealize.ShloMosaic
open Idealize.ShloMosaic.TcCoe
open Idealize.SL.Sem
open scoped BigOperators

/-! ## The side conditions of the precondition -/

theorem preK : Cert.Pre_routed_KernelIdeal.Facts := ⟨by decide, by decide, by decide, by decide⟩
theorem preR : Cert.Pre_routed_ReferenceIdeal.Facts := ⟨by decide, by decide, by decide, by decide⟩

/-! ## The reference's frame -/

/-- The reference runs, its arguments stay, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The precondition, word by word -/

section Words
variable [hP : Cert.Pre_routed_KernelIdeal.Facts]
open Cert.Pre_routed_KernelIdeal

theorem real_of_abs_lt (v : EReal) (h : Ideal.cmp .olt (max v (-v)) (Ideal.ofBits .f32 0x7F800000#32) = 1#1) : ∃ r : ℝ, v = r := by
  have ht : Ideal.ofBits .f32 0x7F800000#32 = (⊤ : EReal) := by simp [Ideal.ofBits, Ideal.ieee]
  rw [ht] at h
  induction v using EReal.rec with
  | bot => exact absurd h (by simp [Ideal.cmp])
  | top => exact absurd h (by simp [Ideal.cmp])
  | coe r => exact ⟨r, rfl⟩

theorem num_of_range (w : BitVec 32) (h : IntOp.andi (IntOp.cmpi .sge w 0#32) (IntOp.cmpi .slt w 32#32) = 1#1) : ∃ e : Fin 32, w = BitVec.ofNat 32 e.val := by
  have h1 : (0#32).sle w = true ∧ w.slt 32#32 = true := by
    have h' : (BitVec.ofBool ((0#32).sle w)) &&& (BitVec.ofBool (w.slt 32#32)) = 1#1 := h
    revert h'
    cases (0#32).sle w <;> cases w.slt 32#32 <;> decide
  have h2 : (0 : Int) ≤ w.toInt := by simpa [BitVec.sle_eq_decide] using h1.1
  have h3 : w.toInt < 32 := by simpa [BitVec.slt_eq_decide] using h1.2
  have h4 : w.toNat < 32 := by
    have := BitVec.toInt_eq_toNat_cond w
    have := w.isLt
    split at * <;> omega
  exact ⟨⟨w.toNat, h4⟩, by simp⟩

theorem fin_x (X : FVec Ideal S1024x256 .bf16) (R : FVec Ideal S256x32 .bf16) (I : IVec S1024x2 32) (W : FVec Ideal S4x256x512 .bf16)
    (h : (fn (F := Ideal) X R I W).1 = fun _ => 1#1) (n : Fin 1024) (k : Fin 256) : ∃ r : ℝ, X (ix2 n k) = r := by
  refine real_of_abs_lt _ (Eq.trans ?_ (congrFun h (ix2 n k)))
  symm
  unfold fn
  pointwise []
  rfl
theorem fin_r (X : FVec Ideal S1024x256 .bf16) (R : FVec Ideal S256x32 .bf16) (I : IVec S1024x2 32) (W : FVec Ideal S4x256x512 .bf16)
    (h : (fn (F := Ideal) X R I W).2.1 = fun _ => 1#1) (k : Fin 256) (e : Fin 32) : ∃ r : ℝ, R (ix2 k e) = r := by
  refine real_of_abs_lt _ (Eq.trans ?_ (congrFun h (ix2 k e)))
  symm
  unfold fn
  pointwise []
  rfl
theorem num_i (X : FVec Ideal S1024x256 .bf16) (R : FVec Ideal S256x32 .bf16) (I : IVec S1024x2 32) (W : FVec Ideal S4x256x512 .bf16)
    (h : (fn (F := Ideal) X R I W).2.2 = fun _ => 1#1) (n : Fin 1024) (j : Fin 2) : ∃ e : Fin 32, I (ix2 n j) = BitVec.ofNat 32 e.val := by
  refine num_of_range _ (Eq.trans ?_ (congrFun h (ix2 n j)))
  symm
  unfold fn
  pointwise []

end Words

/-! ## Where the blocks lie -/

/-- A device's token among all. -/
def gRow (c : Fin 8) (n : Fin 1024) : Fin 8192 := ⟨c.val * 1024 + n.val, by omega⟩

theorem block_rows {α : Type} {w : ℕ} (c : Fin 8) (v : (⟨2, ![8192, w]⟩ : Shape).Idx → α) (ht : Layout.Tiles ⟨2, ![1024, w]⟩ ⟨2, ![8192, w]⟩ 0 8) (n : Fin 1024) (k : Fin w) :
    Layout.block ⟨2, ![1024, w]⟩ ⟨2, ![8192, w]⟩ 0 8 c v ht (ix2 n k) = v (ix2 (gRow c n) k) := by
  rw [Layout.block_apply]
  congr 1
  funext b; fin_cases b <;> exact Fin.ext rfl

theorem block_experts {α : Type} (c : Fin 8) (v : (⟨3, ![32, 256, 512]⟩ : Shape).Idx → α) (ht : Layout.Tiles ⟨3, ![4, 256, 512]⟩ ⟨3, ![32, 256, 512]⟩ 0 8) (e : Fin 4) (k : Fin 256) (h : Fin 512) :
    Layout.block ⟨3, ![4, 256, 512]⟩ ⟨3, ![32, 256, 512]⟩ 0 8 c v ht (ix3 e k h) = v (ix3 ⟨c.val * 4 + e.val, by omega⟩ k h) := by
  rw [Layout.block_apply]
  congr 1
  funext b; fin_cases b <;> exact Fin.ext rfl

theorem ix2_eta {a b : ℕ} (i : (⟨2, ![a, b]⟩ : Shape).Idx) : ∃ (n : Fin a) (k : Fin b), i = ix2 n k :=
  ⟨i 0, i 1, by funext d; fin_cases d <;> rfl⟩

/-! ## The claim -/

variable [hP : Cert.Pre_routed_KernelIdeal.Facts]

/-- On blocks of the same arrays, a device's accumulator is its block of the reference's result. -/
theorem out_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_routed_KernelIdeal m)
    (hX : ∀ c, aX m c = Layout.block ⟨2, ![1024, 256]⟩ ⟨2, ![8192, 256]⟩ 0 8 c (Ref.aX m' 0))
    (hR : ∀ c, aR m c = Ref.aR m' 0)
    (hI : ∀ c, aI m c = Layout.block ⟨2, ![1024, 2]⟩ ⟨2, ![8192, 2]⟩ 0 8 c (Ref.aI m' 0))
    (hW : ∀ c, aW m c = Layout.block ⟨3, ![4, 256, 512]⟩ ⟨3, ![32, 256, 512]⟩ 0 8 c (Ref.aW m' 0))
    (c : Dev Cert.KernelIdeal.nD) :
    outAt m c = Layout.block ⟨2, ![1024, 512]⟩ ⟨2, ![8192, 512]⟩ 0 8 c (Cert.ReferenceIdeal.Value.res_out0 m' 0) := by
  funext i
  obtain ⟨n, h, rfl⟩ := ix2_eta i
  obtain ⟨px, pr', pi⟩ := hpre c
  obtain ⟨e0, h0⟩ := num_i _ _ _ _ pi n 0
  obtain ⟨e1, h1⟩ := num_i _ _ _ _ pi n 1
  have k0 : Ref.aI m' 0 (ix2 (gRow c n) 0) = BitVec.ofNat 32 e0.val := by
    rw [← h0]; exact ((congrFun (hI c) (ix2 n 0)).trans (block_rows c _ _ n 0)).symm
  have k1 : Ref.aI m' 0 (ix2 (gRow c n) 1) = BitVec.ofNat 32 e1.val := by
    rw [← h1]; exact ((congrFun (hI c) (ix2 n 1)).trans (block_rows c _ _ n 1)).symm
  have hx : ∀ k, aX m c (ix2 n k) = Ref.aX m' 0 (ix2 (gRow c n) k) := fun k => (congrFun (hX c) (ix2 n k)).trans (block_rows c _ _ n k)
  have hr : ∀ k e, aR m c (ix2 k e) = Ref.aR m' 0 (ix2 k e) := fun k e => congrFun (hR c) (ix2 k e)
  have hw : ∀ e, wAll m e h = fun k => Ref.aW m' 0 (ix3 e k h) := fun e => funext fun k => by
    unfold wAll
    rw [hW, block_experts]
    refine congrArg (fun e => Ref.aW m' 0 (ix3 e k h)) (Fin.ext ?_)
    show e.val / 4 * 4 + e.val % 4 = e.val
    omega
  have hp : ∀ e, pr m c n e = Ref.pr m' 0 (gRow c n) e := fun e => by
    unfold pr Ref.pr
    simp only [hx, hr]
  rw [block_rows]
  refine (out_entry m c n h e0 e1 h0 h1 (fin_x _ _ _ _ px n) (fin_r _ _ _ _ pr')).trans
    (Eq.trans ?_ (Ref.res_entry m' 0 (gRow c n) h e0 e1 k0 k1).symm)
  simp only [hp, hx, hw]

/-- The value claim. -/
theorem algebraic : Cert.algebraic_KernelIdeal_ReferenceIdeal_pre_routed_KernelIdeal := fun m ρ m' ρ' hpre hargs =>
  ⟨Cert.ReferenceIdeal.Value.res_out0 m' 0,
    (θ_run Cert.KernelIdeal.defs _ _).mono
      (fun _ h c => ⟨((h.1 c 4).trans (finalA_out m ρ c)).trans
          (out_block m m' hpre (fun c => (hargs c).1) (fun c => (hargs c).2.1) (fun c => (hargs c).2.2.1) (fun c => (hargs c).2.2.2) c),
        (h.1 c 0).trans (finalA_in m ρ c 0 rfl), (h.1 c 1).trans (finalA_in m ρ c 1 rfl),
        (h.1 c 2).trans (finalA_in m ρ c 2 rfl), (h.1 c 3).trans (finalA_in m ρ c 3 rfl)⟩)
      (run_main (F := Ideal) m ρ),
    (θ_run Cert.ReferenceIdeal.defs _ _).mono (fun _ h => h 0) (Cert.ReferenceIdeal.Value.run (F := Ideal) m' ρ')⟩

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Algebraic
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

open Cert.MoeProof in
theorem claim : Cert.Claim :=
  ⟨Cert.Kernel.Gen.facts, Cert.KernelIdeal.Gen.facts, Cert.ReferenceIdeal.Gen.facts, preK, preR,
    frame_kernel, frame_kernelIdeal, fun m g _ => frame_kernelIdeal m g trivial, frame_reference, fun m g _ => frame_reference m g trivial,
    trivial, algebraic (hP := preK)⟩

end Cert.Proof

end
